-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_GlaIdeal (m : (ℓ : Loc Cert.GlaIdeal.nD Cert.GlaIdeal.τ Cert.GlaIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
      ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
      ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11)
      ∧ r.2.mem ((c.tc : Thread Cert.GlaIdeal.nD Cert.GlaIdeal.τ).loc Cert.GlaIdeal.main_arg12) = m ((c.tc : Thread Cert.GlaIdeal.nD Cert.GlaIdeal.τ).loc Cert.GlaIdeal.main_arg12)
      ∧ r.2.mem ((c.tc : Thread Cert.GlaIdeal.nD Cert.GlaIdeal.τ).loc Cert.GlaIdeal.main_arg13) = m ((c.tc : Thread Cert.GlaIdeal.nD Cert.GlaIdeal.τ).loc Cert.GlaIdeal.main_arg13))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Mix_MixIdeal : Prop :=
  True

def algebraic_MixIdeal_GlaIdeal [hMixIdeal : Cert.MixIdeal.Facts] [hGlaIdeal : Cert.GlaIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.GlaIdeal.nD Cert.GlaIdeal.τ Cert.GlaIdeal.sig) → Buf (Elt Ideal) ℓ) (g' : Dev Cert.GlaIdeal.nD → PrngReg), Pre_MixIdeal m →
    (∀ c : Dev Cert.MixIdeal.nD,
      m' ((c.tc : Thread Cert.GlaIdeal.nD Cert.GlaIdeal.τ).loc Cert.GlaIdeal.main_arg0) = m ((c.tc : Thread Cert.MixIdeal.nD Cert.MixIdeal.τ).loc Cert.MixIdeal.main_arg0)
      ∧ m' ((c.tc : Thread Cert.GlaIdeal.nD Cert.GlaIdeal.τ).loc Cert.GlaIdeal.main_arg1) = m ((c.tc : Thread Cert.MixIdeal.nD Cert.MixIdeal.τ).loc Cert.MixIdeal.main_arg1)
      ∧ m' ((c.tc : Thread Cert.GlaIdeal.nD Cert.GlaIdeal.τ).loc Cert.GlaIdeal.main_arg2) = m ((c.tc : Thread Cert.MixIdeal.nD Cert.MixIdeal.τ).loc Cert.MixIdeal.main_arg2)
      ∧ m' ((c.tc : Thread Cert.GlaIdeal.nD Cert.GlaIdeal.τ).loc Cert.GlaIdeal.main_arg3) = m ((c.tc : Thread Cert.MixIdeal.nD Cert.MixIdeal.τ).loc Cert.MixIdeal.main_arg3)
      ∧ m' ((c.tc : Thread Cert.GlaIdeal.nD Cert.GlaIdeal.τ).loc Cert.GlaIdeal.main_arg4) = m ((c.tc : Thread Cert.MixIdeal.nD Cert.MixIdeal.τ).loc Cert.MixIdeal.main_arg4)
      ∧ m' ((c.tc : Thread Cert.GlaIdeal.nD Cert.GlaIdeal.τ).loc Cert.GlaIdeal.main_arg5) = m ((c.tc : Thread Cert.MixIdeal.nD Cert.MixIdeal.τ).loc Cert.MixIdeal.main_arg5)
      ∧ m' ((c.tc : Thread Cert.GlaIdeal.nD Cert.GlaIdeal.τ).loc Cert.GlaIdeal.main_arg6) = m ((c.tc : Thread Cert.MixIdeal.nD Cert.MixIdeal.τ).loc Cert.MixIdeal.main_arg6)
      ∧ m' ((c.tc : Thread Cert.GlaIdeal.nD Cert.GlaIdeal.τ).loc Cert.GlaIdeal.main_arg7) = m ((c.tc : Thread Cert.MixIdeal.nD Cert.MixIdeal.τ).loc Cert.MixIdeal.main_arg7)
      ∧ m' ((c.tc : Thread Cert.GlaIdeal.nD Cert.GlaIdeal.τ).loc Cert.GlaIdeal.main_arg8) = m ((c.tc : Thread Cert.MixIdeal.nD Cert.MixIdeal.τ).loc Cert.MixIdeal.main_arg8)
      ∧ m' ((c.tc : Thread Cert.GlaIdeal.nD Cert.GlaIdeal.τ).loc Cert.GlaIdeal.main_arg9) = m ((c.tc : Thread Cert.MixIdeal.nD Cert.MixIdeal.τ).loc Cert.MixIdeal.main_arg9)
      ∧ m' ((c.tc : Thread Cert.GlaIdeal.nD Cert.GlaIdeal.τ).loc Cert.GlaIdeal.main_arg10) = m ((c.tc : Thread Cert.MixIdeal.nD Cert.MixIdeal.τ).loc Cert.MixIdeal.main_arg10)
      ∧ m' ((c.tc : Thread Cert.GlaIdeal.nD Cert.GlaIdeal.τ).loc Cert.GlaIdeal.main_arg11) = m ((c.tc : Thread Cert.MixIdeal.nD Cert.MixIdeal.τ).loc Cert.MixIdeal.main_arg11)
      ∧ m' ((c.tc : Thread Cert.GlaIdeal.nD Cert.GlaIdeal.τ).loc Cert.GlaIdeal.main_arg12) = m ((c.tc : Thread Cert.MixIdeal.nD Cert.MixIdeal.τ).loc Cert.MixIdeal.main_arg12)
      ∧ m' ((c.tc : Thread Cert.GlaIdeal.nD Cert.GlaIdeal.τ).loc Cert.GlaIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v15_0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15_0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.GlaIdeal.defs (F := Ideal)) (onTc (τ := Cert.GlaIdeal.τ) (Cert.GlaIdeal.main (F := Ideal))) ⟨m', fun _ => 0, g'⟩ (fun r => ∀ c : Dev Cert.GlaIdeal.nD,
          r.2.mem ((c.tc : Thread Cert.GlaIdeal.nD Cert.GlaIdeal.τ).loc Cert.GlaIdeal.main_v47) = v0 c
          ∧ r.2.mem ((c.tc : Thread Cert.GlaIdeal.nD Cert.GlaIdeal.τ).loc Cert.GlaIdeal.main_arg0) = m' ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m' ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m' ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m' ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m' ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m' ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m' ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m' ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m' ((c.tc : Thread Cert.GlaIdeal.nD Cert.GlaIdeal.τ).loc Cert.GlaIdeal.main_arg8)
          ∧ r.2.mem ((c.tc : Thread Cert.GlaIdeal.nD Cert.GlaIdeal.τ).loc Cert.GlaIdeal.main_arg9) = m' ((c.tc : Thread Cert.GlaIdeal.nD Cert.GlaIdeal.τ).loc Cert.GlaIdeal.main_arg9)
          ∧ r.2.mem ((c.tc : Thread Cert.GlaIdeal.nD Cert.GlaIdeal.τ).loc Cert.GlaIdeal.main_arg10) = m' ((c.tc : Thread Cert.GlaIdeal.nD Cert.GlaIdeal.τ).loc Cert.GlaIdeal.main_arg10)
          ∧ r.2.mem ((c.tc : Thread Cert.GlaIdeal.nD Cert.GlaIdeal.τ).loc Cert.GlaIdeal.main_arg11) = m' ((c.tc : Thread Cert.GlaIdeal.nD Cert.GlaIdeal.τ).loc Cert.GlaIdeal.main_arg11)
          ∧ r.2.mem ((c.tc : Thread Cert.GlaIdeal.nD Cert.GlaIdeal.τ).loc Cert.GlaIdeal.main_arg12) = m' ((c.tc : Thread Cert.GlaIdeal.nD Cert.GlaIdeal.τ).loc Cert.GlaIdeal.main_arg12)
          ∧ r.2.mem ((c.tc : Thread Cert.GlaIdeal.nD Cert.GlaIdeal.τ).loc Cert.GlaIdeal.main_arg13) = m' ((c.tc : Thread Cert.GlaIdeal.nD Cert.GlaIdeal.τ).loc Cert.GlaIdeal.main_arg13))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v59) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v56) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v48_3)) (v1 : (c : Dev Cert.ProjIdeal.nD) → Buf (Elt Ideal) ((c.tc : Thread Cert.ProjIdeal.nD Cert.ProjIdeal.τ).loc Cert.ProjIdeal.main_v48_4)) (v2 : (c : Dev Cert.ProjIdeal.nD) → Buf (Elt Ideal) ((c.tc : Thread Cert.ProjIdeal.nD Cert.ProjIdeal.τ).loc Cert.ProjIdeal.main_v48_11)) (v3 : (c : Dev Cert.ProjIdeal.nD) → Buf (Elt Ideal) ((c.tc : Thread Cert.ProjIdeal.nD Cert.ProjIdeal.τ).loc Cert.ProjIdeal.main_v48_5)) (v4 : (c : Dev Cert.ProjIdeal.nD) → Buf (Elt Ideal) ((c.tc : Thread Cert.ProjIdeal.nD Cert.ProjIdeal.τ).loc Cert.ProjIdeal.main_v48_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v48_3) = v0 c
          ∧ r.2.mem ((c.tc : Thread Cert.ProjIdeal.nD Cert.ProjIdeal.τ).loc Cert.ProjIdeal.main_v48_4) = v1 c
          ∧ r.2.mem ((c.tc : Thread Cert.ProjIdeal.nD Cert.ProjIdeal.τ).loc Cert.ProjIdeal.main_v48_11) = v2 c
          ∧ r.2.mem ((c.tc : Thread Cert.ProjIdeal.nD Cert.ProjIdeal.τ).loc Cert.ProjIdeal.main_v48_5) = v3 c
          ∧ r.2.mem ((c.tc : Thread Cert.ProjIdeal.nD Cert.ProjIdeal.τ).loc Cert.ProjIdeal.main_v48_6) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v49) = v0 c
          ∧ r.2.mem ((c.tc : Thread Cert.ProjRefIdeal.nD Cert.ProjRefIdeal.τ).loc Cert.ProjRefIdeal.main_v50) = v1 c
          ∧ r.2.mem ((c.tc : Thread Cert.ProjRefIdeal.nD Cert.ProjRefIdeal.τ).loc Cert.ProjRefIdeal.main_v51) = v2 c
          ∧ r.2.mem ((c.tc : Thread Cert.ProjRefIdeal.nD Cert.ProjRefIdeal.τ).loc Cert.ProjRefIdeal.main_v52) = v3 c
          ∧ r.2.mem ((c.tc : Thread Cert.ProjRefIdeal.nD Cert.ProjRefIdeal.τ).loc Cert.ProjRefIdeal.main_v53) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hMix : Cert.Mix.Facts) (hMixIdeal : Cert.MixIdeal.Facts) (hGlaIdeal : Cert.GlaIdeal.Facts) (hMerge : Cert.Merge.Facts) (hMergeIdeal : Cert.MergeIdeal.Facts) (hMergeRefIdeal : Cert.MergeRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts),
    quiescent_Mix (hMix := hMix)
    ∧ quiescent_MixIdeal (hMixIdeal := hMixIdeal)
    ∧ quiescent_GlaIdeal (hGlaIdeal := hGlaIdeal)
    ∧ quiescent_Merge (hMerge := hMerge)
    ∧ quiescent_MergeIdeal (hMergeIdeal := hMergeIdeal)
    ∧ quiescent_MergeRefIdeal (hMergeRefIdeal := hMergeRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ preserves_Mix_MixIdeal
    ∧ algebraic_MixIdeal_GlaIdeal (hMixIdeal := hMixIdeal) (hGlaIdeal := hGlaIdeal)
    ∧ preserves_Merge_MergeIdeal
    ∧ algebraic_MergeIdeal_MergeRefIdeal (hMergeIdeal := hMergeIdeal) (hMergeRefIdeal := hMergeRefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
-- ==== Mix.lean ====
abbrev S32768x512 : Shape := ⟨2, ![32768, 512]⟩
abbrev S32768x1024 : Shape := ⟨2, ![32768, 1024]⟩
abbrev S512x512 : Shape := ⟨2, ![512, 512]⟩
abbrev S32768x128 : Shape := ⟨2, ![32768, 128]⟩
abbrev S128x32768 : Shape := ⟨2, ![128, 32768]⟩
abbrev S1x256 : Shape := ⟨2, ![1, 256]⟩
abbrev S1x128 : Shape := ⟨2, ![1, 128]⟩
abbrev S2x16384x512 : Shape := ⟨3, ![2, 16384, 512]⟩
abbrev S2x16384x1024 : Shape := ⟨3, ![2, 16384, 1024]⟩
abbrev S2x64x4x512 : Shape := ⟨4, ![2, 64, 4, 512]⟩
abbrev S2x16384x128 : Shape := ⟨3, ![2, 16384, 128]⟩
abbrev S256 : Shape := ⟨1, ![256]⟩
abbrev S128 : Shape := ⟨1, ![128]⟩
abbrev S2x256x512 : Shape := ⟨3, ![2, 256, 512]⟩
abbrev S2x256x1024 : Shape := ⟨3, ![2, 256, 1024]⟩
abbrev S2x1x4x512 : Shape := ⟨4, ![2, 1, 4, 512]⟩
abbrev S2x256x128 : Shape := ⟨3, ![2, 256, 128]⟩
abbrev S128x256 : Shape := ⟨2, ![128, 256]⟩
abbrev S8x128x256 : Shape := ⟨3, ![8, 128, 256]⟩
abbrev S16x128x128 : Shape := ⟨3, ![16, 128, 128]⟩
abbrev S256x256 : Shape := ⟨2, ![256, 256]⟩
abbrev S128x128 : Shape := ⟨2, ![128, 128]⟩
abbrev S1x256x128 : Shape := ⟨3, ![1, 256, 128]⟩
abbrev S256x128 : Shape := ⟨2, ![256, 128]⟩
abbrev S1x128x256 : Shape := ⟨3, ![1, 128, 256]⟩
abbrev S1x1x4x512 : Shape := ⟨4, ![1, 1, 4, 512]⟩
abbrev S4x512 : Shape := ⟨2, ![4, 512]⟩
abbrev S8x512 : Shape := ⟨2, ![8, 512]⟩
abbrev S8x128 : Shape := ⟨2, ![8, 128]⟩
abbrev S128x8 : Shape := ⟨2, ![128, 8]⟩
abbrev S256x1 : Shape := ⟨2, ![256, 1]⟩
abbrev S128x1 : Shape := ⟨2, ![128, 1]⟩
abbrev S1x256x256 : Shape := ⟨3, ![1, 256, 256]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S1x64x256 : Shape := ⟨3, ![1, 64, 256]⟩
abbrev S16x128 : Shape := ⟨2, ![16, 128]⟩
abbrev S32x128 : Shape := ⟨2, ![32, 128]⟩
abbrev S1x128x128 : Shape := ⟨3, ![1, 128, 128]⟩
abbrev S1x1 : Shape := ⟨2, ![1, 1]⟩
abbrev S1x64x128 : Shape := ⟨3, ![1, 64, 128]⟩

abbrev nBuf : Space → Nat
  | .hbm => 31
  | .vmem => 34
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S32768x1024, .bf16⟩
  | .hbm, ⟨5, _⟩ => ⟨S512x512, .f32⟩
  | .hbm, ⟨6, _⟩ => ⟨S32768x1024, .bf16⟩
  | .hbm, ⟨7, _⟩ => ⟨S32768x1024, .bf16⟩
  | .hbm, ⟨8, _⟩ => ⟨S32768x1024, .bf16⟩
  | .hbm, ⟨9, _⟩ => ⟨S32768x1024, .bf16⟩
  | .hbm, ⟨10, _⟩ => ⟨S32768x128, .f32⟩
  | .hbm, ⟨11, _⟩ => ⟨S128x32768, .f32⟩
  | .hbm, ⟨12, _⟩ => ⟨S1x256, .f32⟩
  | .hbm, ⟨13, _⟩ => ⟨S1x128, .f32⟩
  | .hbm, ⟨14, _⟩ => ⟨S2x16384x512, .bf16⟩
  | .hbm, ⟨15, _⟩ => ⟨S2x16384x512, .bf16⟩
  | .hbm, ⟨16, _⟩ => ⟨S2x16384x512, .bf16⟩
  | .hbm, ⟨17, _⟩ => ⟨S2x16384x1024, .bf16⟩
  | .hbm, ⟨18, _⟩ => ⟨S2x16384x1024, .bf16⟩
  | .hbm, ⟨19, _⟩ => ⟨S2x64x4x512, .f32⟩
  | .hbm, ⟨20, _⟩ => ⟨S2x16384x1024, .bf16⟩
  | .hbm, ⟨21, _⟩ => ⟨S2x16384x1024, .bf16⟩
  | .hbm, ⟨22, _⟩ => ⟨S2x16384x1024, .bf16⟩
  | .hbm, ⟨23, _⟩ => ⟨S2x16384x1024, .bf16⟩
  | .hbm, ⟨24, _⟩ => ⟨S2x16384x128, .f32⟩
  | .hbm, ⟨25, _⟩ => ⟨S256, .f32⟩
  | .hbm, ⟨26, _⟩ => ⟨S1x256, .f32⟩
  | .hbm, ⟨27, _⟩ => ⟨S128, .f32⟩
  | .hbm, ⟨28, _⟩ => ⟨S1x128, .f32⟩
  | .hbm, ⟨29, _⟩ => ⟨S2x16384x1024, .bf16⟩
  | .hbm, ⟨30, _⟩ => ⟨S2x16384x1024, .bf16⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x512, .bf16⟩
  | .local _ .vmem, ⟨5, _⟩ => ⟨S2x256x512, .bf16⟩
  | .local _ .vmem, ⟨6, _⟩ => ⟨S2x256x1024, .bf16⟩
  | .local _ .vmem, ⟨7, _⟩ => ⟨S2x256x1024, .bf16⟩
  | .local _ .vmem, ⟨8, _⟩ => ⟨S2x256x1024, .bf16⟩
  | .local _ .vmem, ⟨9, _⟩ => ⟨S2x256x1024, .bf16⟩
  | .local _ .vmem, ⟨10, _⟩ => ⟨S2x1x4x512, .f32⟩
  | .local _ .vmem, ⟨11, _⟩ => ⟨S2x1x4x512, .f32⟩
  | .local _ .vmem, ⟨12, _⟩ => ⟨S2x256x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S2x256x1024, .bf16⟩
  | .local _ .vmem, ⟨16, _⟩ => ⟨S2x256x1024, .bf16⟩
  | .local _ .vmem, ⟨17, _⟩ => ⟨S2x256x1024, .bf16⟩
  | .local _ .vmem, ⟨18, _⟩ => ⟨S2x256x1024, .bf16⟩
  | .local _ .vmem, ⟨19, _⟩ => ⟨S2x256x1024, .bf16⟩
  | .local _ .vmem, ⟨20, _⟩ => ⟨S2x256x128, .f32⟩
  | .local _ .vmem, ⟨21, _⟩ => ⟨S2x256x128, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S1x256, .f32⟩
  | .local _ .vmem, ⟨27, _⟩ => ⟨S1x128, .f32⟩
  | .local _ .vmem, ⟨28, _⟩ => ⟨S2x256x1024, .bf16⟩
  | .local _ .vmem, ⟨29, _⟩ => ⟨S2x256x1024, .bf16⟩
  | .local _ .vmem, ⟨30, _⟩ => ⟨S2x256x1024, .bf16⟩
  | .local _ .vmem, ⟨31, _⟩ => ⟨S2x256x1024, .bf16⟩
  | .local _ .vmem, ⟨32, _⟩ => ⟨S8x128x256, .f32⟩
  | .local _ .vmem, ⟨33, _⟩ => ⟨S16x128x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== GlaIdeal.lean ====
abbrev S32768x512 : Shape := ⟨2, ![32768, 512]⟩
abbrev S32768x1024 : Shape := ⟨2, ![32768, 1024]⟩
abbrev S512x512 : Shape := ⟨2, ![512, 512]⟩
abbrev S32768x128 : Shape := ⟨2, ![32768, 128]⟩
abbrev S128x32768 : Shape := ⟨2, ![128, 32768]⟩
abbrev S1x256 : Shape := ⟨2, ![1, 256]⟩
abbrev S1x128 : Shape := ⟨2, ![1, 128]⟩
abbrev S2x16384x4x128 : Shape := ⟨4, ![2, 16384, 4, 128]⟩
abbrev S2x256x64x4x128 : Shape := ⟨5, ![2, 256, 64, 4, 128]⟩
abbrev S2x4x256x64x128 : Shape := ⟨5, ![2, 4, 256, 64, 128]⟩
abbrev S2x16384x4x256 : Shape := ⟨4, ![2, 16384, 4, 256]⟩
abbrev S2x256x64x4x256 : Shape := ⟨5, ![2, 256, 64, 4, 256]⟩
abbrev S2x4x256x64x256 : Shape := ⟨5, ![2, 4, 256, 64, 256]⟩
abbrev S2x256x4x128 : Shape := ⟨4, ![2, 256, 4, 128]⟩
abbrev S2x4x256x128 : Shape := ⟨4, ![2, 4, 256, 128]⟩
abbrev S_ : Shape := ⟨0, ![]⟩
abbrev S2x4x128x256 : Shape := ⟨4, ![2, 4, 128, 256]⟩
abbrev S256x2x4x64x128 : Shape := ⟨5, ![256, 2, 4, 64, 128]⟩
abbrev S256x2x4x64x256 : Shape := ⟨5, ![256, 2, 4, 64, 256]⟩
abbrev S256x2x4x128 : Shape := ⟨4, ![256, 2, 4, 128]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S1x2x4x128 : Shape := ⟨4, ![1, 2, 4, 128]⟩
abbrev S2x4x128 : Shape := ⟨3, ![2, 4, 128]⟩
abbrev S2x4x64x64 : Shape := ⟨4, ![2, 4, 64, 64]⟩
abbrev S64x64 : Shape := ⟨2, ![64, 64]⟩
abbrev S2x4x128x1 : Shape := ⟨4, ![2, 4, 128, 1]⟩
abbrev S256 : Shape := ⟨1, ![256]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩
abbrev S2x16384x1024 : Shape := ⟨3, ![2, 16384, 1024]⟩

abbrev nBuf : Space → Nat
  | .hbm => 139
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S32768x1024, .bf16⟩
  | 4 => ⟨S32768x1024, .bf16⟩
  | 5 => ⟨S512x512, .f32⟩
  | 6 => ⟨S32768x1024, .bf16⟩
  | 7 => ⟨S32768x1024, .bf16⟩
  | 8 => ⟨S32768x1024, .bf16⟩
  | 9 => ⟨S32768x1024, .bf16⟩
  | 10 => ⟨S32768x128, .f32⟩
  | 11 => ⟨S128x32768, .f32⟩
  | 12 => ⟨S1x256, .f32⟩
  | 13 => ⟨S1x128, .f32⟩
  | 14 => ⟨S32768x512, .f32⟩
  | 15 => ⟨S2x16384x4x128, .f32⟩
  | 16 => ⟨S2x256x64x4x128, .f32⟩
  | 17 => ⟨S2x4x256x64x128, .f32⟩
  | 18 => ⟨S32768x512, .f32⟩
  | 19 => ⟨S2x16384x4x128, .f32⟩
  | 20 => ⟨S2x256x64x4x128, .f32⟩
  | 21 => ⟨S2x4x256x64x128, .f32⟩
  | 22 => ⟨S32768x512, .f32⟩
  | 23 => ⟨S2x16384x4x128, .f32⟩
  | 24 => ⟨S2x256x64x4x128, .f32⟩
  | 25 => ⟨S2x4x256x64x128, .f32⟩
  | 26 => ⟨S32768x1024, .f32⟩
  | 27 => ⟨S2x16384x4x256, .f32⟩
  | 28 => ⟨S2x256x64x4x256, .f32⟩
  | 29 => ⟨S2x4x256x64x256, .f32⟩
  | 30 => ⟨S2x256x4x128, .f32⟩
  | 31 => ⟨S2x4x256x128, .f32⟩
  | 32 => ⟨S_, .f32⟩
  | 33 => ⟨S2x4x128x256, .f32⟩
  | 34 => ⟨S256x2x4x64x128, .f32⟩
  | 35 => ⟨S256x2x4x64x128, .f32⟩
  | 36 => ⟨S256x2x4x64x128, .f32⟩
  | 37 => ⟨S256x2x4x64x256, .f32⟩
  | 38 => ⟨S256x2x4x128, .f32⟩
  | 39 => ⟨S_, .f32⟩
  | 40 => ⟨S256x2x4x64x256, .f32⟩
  | 41 => ⟨S_, .i32⟩
  | 42 => ⟨S256x2x4x64x128, .f32⟩
  | 43 => ⟨S256x2x4x64x128, .f32⟩
  | 44 => ⟨S256x2x4x64x128, .f32⟩
  | 45 => ⟨S256x2x4x64x256, .f32⟩
  | 46 => ⟨S256x2x4x128, .f32⟩
  | 47 => ⟨S_, .i32⟩
  | 48 => ⟨S2x4x128x256, .f32⟩
  | 49 => ⟨S256x2x4x64x256, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1x2x4x64x128, .f32⟩
  | 57 => ⟨S2x4x64x128, .f32⟩
  | 58 => ⟨S_, .i32⟩
  | 59 => ⟨S_, .i32⟩
  | 60 => ⟨S_, .i32⟩
  | 61 => ⟨S_, .i32⟩
  | 62 => ⟨S1x2x4x64x128, .f32⟩
  | 63 => ⟨S2x4x64x128, .f32⟩
  | 64 => ⟨S_, .i32⟩
  | 65 => ⟨S_, .i32⟩
  | 66 => ⟨S_, .i32⟩
  | 67 => ⟨S_, .i32⟩
  | 68 => ⟨S1x2x4x64x128, .f32⟩
  | 69 => ⟨S2x4x64x128, .f32⟩
  | 70 => ⟨S_, .i32⟩
  | 71 => ⟨S_, .i32⟩
  | 72 => ⟨S_, .i32⟩
  | 73 => ⟨S_, .i32⟩
  | 74 => ⟨S1x2x4x64x256, .f32⟩
  | 75 => ⟨S2x4x64x256, .f32⟩
  | 76 => ⟨S_, .i32⟩
  | 77 => ⟨S_, .i32⟩
  | 78 => ⟨S_, .i32⟩
  | 79 => ⟨S1x2x4x128, .f32⟩
  | 80 => ⟨S2x4x128, .f32⟩
  | 81 => ⟨S2x4x64x64, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S_, .f32⟩
  | 94 => ⟨S_, .f32⟩
  | 95 => ⟨S2x4x64x64, .i1⟩
  | 96 => ⟨S2x4x64x64, .f32⟩
  | 97 => ⟨S2x4x64x64, .f32⟩
  | 98 => ⟨S2x4x64x256, .f32⟩
  | 99 => ⟨S2x4x64x256, .f32⟩
  | 100 => ⟨S2x4x64x256, .f32⟩
  | 101 => ⟨S2x4x128x1, .f32⟩
  | 102 => ⟨S2x4x128x256, .f32⟩
  | 103 => ⟨S2x4x128x256, .f32⟩
  | 104 => ⟨S2x4x128x256, .f32⟩
  | 105 => ⟨S2x4x128x256, .f32⟩
  | 106 => ⟨S1x2x4x64x256, .f32⟩
  | 107 => ⟨S_, .i32⟩
  | 108 => ⟨S_, .i32⟩
  | 109 => ⟨S_, .i32⟩
  | 110 => ⟨S_, .i32⟩
  | 111 => ⟨S256x2x4x64x256, .f32⟩
  | 112 => ⟨S_, .i32⟩
  | 113 => ⟨S_, .i32⟩
  | 114 => ⟨S2x4x256x64x256, .f32⟩
  | 115 => ⟨S2x256x64x4x256, .f32⟩
  | 116 => ⟨S2x16384x4x256, .f32⟩
  | 117 => ⟨S256, .f32⟩
  | 118 => ⟨S2x16384x4x256, .f32⟩
  | 119 => ⟨S_, .f32⟩
  | 120 => ⟨S2x16384x4, .f32⟩
  | 121 => ⟨S2x16384x4x1, .f32⟩
  | 122 => ⟨S_, .f32⟩
  | 123 => ⟨S2x16384x4x1, .f32⟩
  | 124 => ⟨S2x16384x4x1, .f32⟩
  | 125 => ⟨S_, .f32⟩
  | 126 => ⟨S2x16384x4x1, .f32⟩
  | 127 => ⟨S2x16384x4x1, .f32⟩
  | _ => ⟨S32768x512, .bf16⟩

abbrev hbmTy0_1 (i : Nat) : BufTy := match i % 128 with
  | 0 => ⟨S2x16384x4x1, .f32⟩
  | 1 => ⟨S2x16384x4x256, .f32⟩
  | 2 => ⟨S2x16384x4x256, .f32⟩
  | 3 => ⟨S1x1x1x256, .f32⟩
  | 4 => ⟨S2x16384x4x256, .f32⟩
  | 5 => ⟨S2x16384x4x256, .f32⟩
  | 6 => ⟨S32768x1024, .f32⟩
  | 7 => ⟨S2x16384x4x256, .f32⟩
  | 8 => ⟨S2x16384x4x256, .f32⟩
  | 9 => ⟨S2x16384x1024, .f32⟩
  | 10 => ⟨S2x16384x1024, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_c : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v25_3 : Ref sig .tc := ⟨.hbm, 45, rfl⟩
abbrev main_v25_4 : Ref sig .tc := ⟨.hbm, 46, rfl⟩
abbrev main_v25_5 : Ref sig .tc := ⟨.hbm, 47, rfl⟩
abbrev main_v25_6 : Ref sig .tc := ⟨.hbm, 48, rfl⟩
abbrev main_v25_7 : Ref sig .tc := ⟨.hbm, 49, rfl⟩
abbrev main_while0c_c_11 : Ref sig .tc := ⟨.hbm, 50, rfl⟩
abbrev main_while0c_v48 : Ref sig .tc := ⟨.hbm, 51, rfl⟩
abbrev main_while0b_call0_c : Ref sig .tc := ⟨.hbm, 52, rfl⟩
abbrev main_while0b_call0_c_0 : Ref sig .tc := ⟨.hbm, 53, rfl⟩
abbrev main_while0b_call0_c_1 : Ref sig .tc := ⟨.hbm, 54, rfl⟩
abbrev main_while0b_call0_c_2 : Ref sig .tc := ⟨.hbm, 55, rfl⟩
abbrev main_while0b_call0_v0 : Ref sig .tc := ⟨.hbm, 56, rfl⟩
abbrev main_while0b_v48 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_c_1 : Ref sig .tc := ⟨.hbm, 60, rfl⟩
abbrev main_while0b_call1_c_2 : Ref sig .tc := ⟨.hbm, 61, rfl⟩
abbrev main_while0b_call1_v0 : Ref sig .tc := ⟨.hbm, 62, rfl⟩
abbrev main_while0b_v49 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_call2_c_2 : Ref sig .tc := ⟨.hbm, 67, rfl⟩
abbrev main_while0b_call2_v0 : Ref sig .tc := ⟨.hbm, 68, rfl⟩
abbrev main_while0b_v50 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_c_2 : Ref sig .tc := ⟨.hbm, 73, rfl⟩
abbrev main_while0b_call3_v0 : Ref sig .tc := ⟨.hbm, 74, rfl⟩
abbrev main_while0b_v51 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v52 : Ref sig .tc := ⟨.hbm, 80, rfl⟩
abbrev main_while0b_v53 : Ref sig .tc := ⟨.hbm, 81, rfl⟩
abbrev main_while0b_c_11 : Ref sig .tc := ⟨.hbm, 82, rfl⟩
abbrev main_while0b_v54 : Ref sig .tc := ⟨.hbm, 83, rfl⟩
abbrev main_while0b_call5_v0 : Ref sig .tc := ⟨.hbm, 84, rfl⟩
abbrev main_while0b_call5_c : Ref sig .tc := ⟨.hbm, 85, rfl⟩
abbrev main_while0b_call5_v1 : Ref sig .tc := ⟨.hbm, 86, rfl⟩
abbrev main_while0b_call5_v2 : Ref sig .tc := ⟨.hbm, 87, rfl⟩
abbrev main_while0b_call5_v3 : Ref sig .tc := ⟨.hbm, 88, rfl⟩
abbrev main_while0b_call5_v4 : Ref sig .tc := ⟨.hbm, 89, rfl⟩
abbrev main_while0b_call5_c_0 : Ref sig .tc := ⟨.hbm, 90, rfl⟩
abbrev main_while0b_call5_v5 : Ref sig .tc := ⟨.hbm, 91, rfl⟩
abbrev main_while0b_v55 : Ref sig .tc := ⟨.hbm, 92, rfl⟩
abbrev main_while0b_cst_12 : Ref sig .tc := ⟨.hbm, 93, rfl⟩
abbrev main_while0b_call6_v0 : Ref sig .tc := ⟨.hbm, 94, rfl⟩
abbrev main_while0b_call6_v1 : Ref sig .tc := ⟨.hbm, 95, rfl⟩
abbrev main_while0b_call6_v2 : Ref sig .tc := ⟨.hbm, 96, rfl⟩
abbrev main_while0b_v56 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_v65 : Ref sig .tc := ⟨.hbm, 111, rfl⟩
abbrev main_while0b_c_13 : Ref sig .tc := ⟨.hbm, 112, rfl⟩
abbrev main_while0b_v66 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_cst_1 : Ref sig .tc := ⟨.hbm, 119, rfl⟩
abbrev main_v31 : Ref sig .tc := ⟨.hbm, 120, rfl⟩
abbrev main_v32 : Ref sig .tc := ⟨.hbm, 121, rfl⟩
abbrev main_cst_2 : Ref sig .tc := ⟨.hbm, 122, rfl⟩
abbrev main_v33 : Ref sig .tc := ⟨.hbm, 123, rfl⟩
abbrev main_v34 : Ref sig .tc := ⟨.hbm, 124, rfl⟩
abbrev main_cst_3 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩

abbrev nD : Nat := 1
abbrev τ : Topo := Topo.v7x

variable {F : FTy → Type} [FloatOps F]

abbrev main_while0_count : Scf.Loop 32 := ⟨0#32, 256#32, 1#32⟩
-- ==== Merge.lean ====
abbrev S32768x1024 : Shape := ⟨2, ![32768, 1024]⟩
abbrev S2x6144 : Shape := ⟨2, ![2, 6144]⟩
abbrev S1x1024 : Shape := ⟨2, ![1, 1024]⟩
abbrev S1x1024x1024 : Shape := ⟨3, ![1, 1024, 1024]⟩
abbrev S2x6x1024 : Shape := ⟨3, ![2, 6, 1024]⟩
abbrev S1024 : Shape := ⟨1, ![1024]⟩
abbrev S1024x1024 : Shape := ⟨2, ![1024, 1024]⟩
abbrev S1x6x1024 : Shape := ⟨3, ![1, 6, 1024]⟩
abbrev S6x1024 : Shape := ⟨2, ![6, 1024]⟩
abbrev S1024x1 : Shape := ⟨2, ![1024, 1]⟩

abbrev nBuf : Space → Nat
  | .hbm => 17
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .f32⟩
  | .hbm, ⟨5, _⟩ => ⟨S2x6144, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S2x6x1024, .f32⟩
  | .hbm, ⟨11, _⟩ => ⟨S1024, .f32⟩
  | .hbm, ⟨12, _⟩ => ⟨S1x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S32768x1024 : Shape := ⟨2, ![32768, 1024]⟩
abbrev S2x6144 : Shape := ⟨2, ![2, 6144]⟩
abbrev S1x1024 : Shape := ⟨2, ![1, 1024]⟩
abbrev S1x1024x1024 : Shape := ⟨3, ![1, 1024, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S1024x1024 : Shape := ⟨2, ![1024, 1024]⟩
abbrev S_ : Shape := ⟨0, ![]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .f32⟩
  | .hbm, ⟨5, _⟩ => ⟨S2x6144, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x16384x1024, .f32⟩
  | .hbm, ⟨27, _⟩ => ⟨S1024x1024, .f32⟩
  | .hbm, ⟨28, _⟩ => ⟨S32768x1024, .f32⟩
  | .hbm, ⟨29, _⟩ => ⟨S2x16384x1024, .f32⟩
  | .hbm, ⟨30, _⟩ => ⟨S1024x1024, .f32⟩
  | .hbm, ⟨31, _⟩ => ⟨S32768x1024, .f32⟩
  | .hbm, ⟨32, _⟩ => ⟨S2x16384x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S2x16384x1024, .f32⟩
  | .hbm, ⟨42, _⟩ => ⟨S2x16384x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S2x16384x1024, .f32⟩
  | .hbm, ⟨52, _⟩ => ⟨S2x16384x1024, .f32⟩
  | .hbm, ⟨53, _⟩ => ⟨S2x16384x1024, .f32⟩
  | .hbm, ⟨54, _⟩ => ⟨S1024x1024, .f32⟩
  | .hbm, ⟨55, _⟩ => ⟨S2x16384x1024, .f32⟩
  | .hbm, ⟨56, _⟩ => ⟨S1024, .f32⟩
  | .hbm, ⟨57, _⟩ => ⟨S2x16384x1024, .f32⟩
  | .hbm, ⟨58, _⟩ => ⟨S_, .f32⟩
  | .hbm, ⟨59, _⟩ => ⟨S2x16384, .f32⟩
  | .hbm, ⟨60, _⟩ => ⟨S2x16384x1, .f32⟩
  | .hbm, ⟨61, _⟩ => ⟨S_, .f32⟩
  | .hbm, ⟨62, _⟩ => ⟨S2x16384x1, .f32⟩
  | .hbm, ⟨63, _⟩ => ⟨S2x16384x1, .f32⟩
  | .hbm, ⟨64, _⟩ => ⟨S_, .f32⟩
  | .hbm, ⟨65, _⟩ => ⟨S2x16384x1, .f32⟩
  | .hbm, ⟨66, _⟩ => ⟨S2x16384x1, .f32⟩
  | .hbm, ⟨67, _⟩ => ⟨S2x16384x1, .f32⟩
  | .hbm, ⟨68, _⟩ => ⟨S2x16384x1024, .f32⟩
  | .hbm, ⟨69, _⟩ => ⟨S2x16384x1024, .f32⟩
  | .hbm, ⟨70, _⟩ => ⟨S1x1x1024, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Mlp.lean ====
abbrev S32768x1024 : Shape := ⟨2, ![32768, 1024]⟩
abbrev S2x6144 : Shape := ⟨2, ![2, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S2x6x1024 : Shape := ⟨3, ![2, 6, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S1x6x1024 : Shape := ⟨3, ![1, 6, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S2x6144, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S2x6x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x4096, .f32⟩
  | .hbm, ⟨12, _⟩ => ⟨S1024x4096, .bf16⟩
  | .hbm, ⟨13, _⟩ => ⟨S4096x1024, .f32⟩
  | .hbm, ⟨14, _⟩ => ⟨S4096x1024, .bf16⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlpRefIdeal.lean ====
abbrev S32768x1024 : Shape := ⟨2, ![32768, 1024]⟩
abbrev S2x6144 : Shape := ⟨2, ![2, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2x16384x4096 : Shape := ⟨3, ![2, 16384, 4096]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6144, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x16384x1024, .f32⟩
  | .hbm, ⟨19, _⟩ => ⟨S1024, .f32⟩
  | .hbm, ⟨20, _⟩ => ⟨S2x16384x1024, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S2x16384x1, .f32⟩
  | .hbm, ⟨31, _⟩ => ⟨S2x16384x1024, .f32⟩
  | .hbm, ⟨32, _⟩ => ⟨S2x16384x1024, .f32⟩
  | .hbm, ⟨33, _⟩ => ⟨S1x1x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S1024x4096, .f32⟩
  | .hbm, ⟨44, _⟩ => ⟨S2x16384x4096, .f32⟩
  | .hbm, ⟨45, _⟩ => ⟨S_, .f32⟩
  | .hbm, ⟨46, _⟩ => ⟨S2x16384x4096, .f32⟩
  | .hbm, ⟨47, _⟩ => ⟨S2x16384x4096, .f32⟩
  | .hbm, ⟨48, _⟩ => ⟨S2x16384x4096, .f32⟩
  | .hbm, ⟨49, _⟩ => ⟨S4096x1024, .f32⟩
  | .hbm, ⟨50, _⟩ => ⟨S2x16384x1024, .f32⟩
  | .hbm, ⟨51, _⟩ => ⟨S1024, .f32⟩
  | .hbm, ⟨52, _⟩ => ⟨S2x16384x1024, .f32⟩
  | .hbm, ⟨53, _⟩ => ⟨S_, .f32⟩
  | .hbm, ⟨54, _⟩ => ⟨S2x16384, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S2x16384x1, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S2x16384x1024, .f32⟩
  | .hbm, ⟨67, _⟩ => ⟨S2x16384x1024, .f32⟩
  | .hbm, ⟨68, _⟩ => ⟨S2x16384x1024, .f32⟩
  | .hbm, ⟨69, _⟩ => ⟨S2x16384x1024, .f32⟩
  | .hbm, ⟨70, _⟩ => ⟨S2x16384x1024, .f32⟩
  | .hbm, ⟨71, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proj.lean ====
abbrev S32768x1024 : Shape := ⟨2, ![32768, 1024]⟩
abbrev S2x6144 : Shape := ⟨2, ![2, 6144]⟩
abbrev S1x1024 : Shape := ⟨2, ![1, 1024]⟩
abbrev S1x1024x9248 : Shape := ⟨3, ![1, 1024, 9248]⟩
abbrev S1x16x512 : Shape := ⟨3, ![1, 16, 512]⟩
abbrev S1x512 : Shape := ⟨2, ![1, 512]⟩
abbrev S1x4x3072 : Shape := ⟨3, ![1, 4, 3072]⟩
abbrev S1x8 : Shape := ⟨2, ![1, 8]⟩
abbrev S128x256 : Shape := ⟨2, ![128, 256]⟩
abbrev S_ : Shape := ⟨0, ![]⟩
abbrev S2x6x1024 : Shape := ⟨3, ![2, 6, 1024]⟩
abbrev S1024x9248 : Shape := ⟨2, ![1024, 9248]⟩
abbrev S1024x512 : Shape := ⟨2, ![1024, 512]⟩
abbrev S1024x1024 : Shape := ⟨2, ![1024, 1024]⟩
abbrev S1024x16 : Shape := ⟨2, ![1024, 16]⟩
abbrev S1024x3072 : Shape := ⟨2, ![1024, 3072]⟩
abbrev S1024x8 : Shape := ⟨2, ![1024, 8]⟩
abbrev S1024x128 : Shape := ⟨2, ![1024, 128]⟩
abbrev S1024x40 : Shape := ⟨2, ![1024, 40]⟩
abbrev S1024x9472 : Shape := ⟨2, ![1024, 9472]⟩
abbrev S16x512 : Shape := ⟨2, ![16, 512]⟩
abbrev S128x512 : Shape := ⟨2, ![128, 512]⟩
abbrev S8 : Shape := ⟨1, ![8]⟩
abbrev S4x8 : Shape := ⟨2, ![4, 8]⟩
abbrev S32 : Shape := ⟨1, ![32]⟩
abbrev S128 : Shape := ⟨1, ![128]⟩
abbrev S1x128 : Shape := ⟨2, ![1, 128]⟩
abbrev S1024 : Shape := ⟨1, ![1024]⟩
abbrev S512 : Shape := ⟨1, ![512]⟩
abbrev S4x3072 : Shape := ⟨2, ![4, 3072]⟩
abbrev S32768x512 : Shape := ⟨2, ![32768, 512]⟩
abbrev S512x512 : Shape := ⟨2, ![512, 512]⟩
abbrev S32768x128 : Shape := ⟨2, ![32768, 128]⟩
abbrev S128x32768 : Shape := ⟨2, ![128, 32768]⟩
abbrev S512x1024 : Shape := ⟨2, ![512, 1024]⟩
abbrev S1x6x1024 : Shape := ⟨3, ![1, 6, 1024]⟩
abbrev S8x512 : Shape := ⟨2, ![8, 512]⟩
abbrev S512x128 : Shape := ⟨2, ![512, 128]⟩
abbrev S8x3072 : Shape := ⟨2, ![8, 3072]⟩
abbrev S6x1024 : Shape := ⟨2, ![6, 1024]⟩
abbrev S512x1 : Shape := ⟨2, ![512, 1]⟩
abbrev S1024x256 : Shape := ⟨2, ![1024, 256]⟩
abbrev S512x256 : Shape := ⟨2, ![512, 256]⟩
abbrev S64x128 : Shape := ⟨2, ![64, 128]⟩
abbrev S512x640 : Shape := ⟨2, ![512, 640]⟩
abbrev S128x640 : Shape := ⟨2, ![128, 640]⟩
abbrev S256x640 : Shape := ⟨2, ![256, 640]⟩
abbrev S8x256 : Shape := ⟨2, ![8, 256]⟩
abbrev S520x256 : Shape := ⟨2, ![520, 256]⟩
abbrev S4x256 : Shape := ⟨2, ![4, 256]⟩
abbrev S1x256 : Shape := ⟨2, ![1, 256]⟩
abbrev S64x256 : Shape := ⟨2, ![64, 256]⟩

abbrev nBuf : Space → Nat
  | .hbm => 136
  | .vmem => 41
  | .smem => 0
  | _ => 0

abbrev hbmTy0_0 (i : Nat) : BufTy := match i % 128 with
  | 0 => ⟨S32768x1024, .f32⟩
  | 1 => ⟨S2x6144, .f32⟩
  | 2 => ⟨S1x1024, .f32⟩
  | 3 => ⟨S1x1024x9248, .f32⟩
  | 4 => ⟨S1x16x512, .f32⟩
  | 5 => ⟨S1x512, .f32⟩
  | 6 => ⟨S1x4x3072, .f32⟩
  | 7 => ⟨S1x8, .f32⟩
  | 8 => ⟨S1x8, .f32⟩
  | 9 => ⟨S128x256, .i32⟩
  | 10 => ⟨S128x256, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S128x256, .i32⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i1⟩
  | 25 => ⟨S_, .i32⟩
  | 26 => ⟨S_, .i1⟩
  | 27 => ⟨S128x256, .i1⟩
  | 28 => ⟨S128x256, .i1⟩
  | 29 => ⟨S128x256, .i1⟩
  | 30 => ⟨S128x256, .i32⟩
  | 31 => ⟨S128x256, .i32⟩
  | 32 => ⟨S128x256, .i32⟩
  | 33 => ⟨S_, .i32⟩
  | 34 => ⟨S_, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S128x256, .i32⟩
  | 42 => ⟨S128x256, .i32⟩
  | 43 => ⟨S_, .i32⟩
  | 44 => ⟨S128x256, .i32⟩
  | 45 => ⟨S128x256, .i1⟩
  | 46 => ⟨S128x256, .i1⟩
  | 47 => ⟨S_, .i32⟩
  | 48 => ⟨S128x256, .i32⟩
  | 49 => ⟨S128x256, .i32⟩
  | 50 => ⟨S128x256, .i32⟩
  | 51 => ⟨S_, .i32⟩
  | 52 => ⟨S_, .i32⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S128x256, .i32⟩
  | 60 => ⟨S128x256, .i32⟩
  | 61 => ⟨S_, .i32⟩
  | 62 => ⟨S128x256, .i32⟩
  | 63 => ⟨S128x256, .i1⟩
  | 64 => ⟨S128x256, .i1⟩
  | 65 => ⟨S_, .i32⟩
  | 66 => ⟨S128x256, .i32⟩
  | 67 => ⟨S128x256, .i32⟩
  | 68 => ⟨S128x256, .i32⟩
  | 69 => ⟨S128x256, .i1⟩
  | 70 => ⟨S128x256, .i1⟩
  | 71 => ⟨S128x256, .i1⟩
  | 72 => ⟨S128x256, .bf16⟩
  | 73 => ⟨S2x6x1024, .f32⟩
  | 74 => ⟨S1024x9248, .f32⟩
  | 75 => ⟨S1024x512, .f32⟩
  | 76 => ⟨S1024x512, .f32⟩
  | 77 => ⟨S1024x1024, .f32⟩
  | 78 => ⟨S1024x1024, .f32⟩
  | 79 => ⟨S1024x16, .f32⟩
  | 80 => ⟨S1024x3072, .f32⟩
  | 81 => ⟨S1024x1024, .f32⟩
  | 82 => ⟨S1024x8, .f32⟩
  | 83 => ⟨S1024x8, .f32⟩
  | 84 => ⟨S1024x1024, .f32⟩
  | 85 => ⟨S1024x1024, .f32⟩
  | 86 => ⟨S_, .i32⟩
  | 87 => ⟨S_, .f32⟩
  | 88 => ⟨S1024x128, .f32⟩
  | 89 => ⟨S1024x40, .f32⟩
  | 90 => ⟨S_, .i32⟩
  | 91 => ⟨S_, .f32⟩
  | 92 => ⟨S1024x128, .f32⟩
  | 93 => ⟨S1024x9472, .f32⟩
  | 94 => ⟨S1024x9472, .bf16⟩
  | 95 => ⟨S16x512, .f32⟩
  | 96 => ⟨S_, .i32⟩
  | 97 => ⟨S_, .f32⟩
  | 98 => ⟨S128x512, .f32⟩
  | 99 => ⟨S128x512, .bf16⟩
  | 100 => ⟨S8, .f32⟩
  | 101 => ⟨S8, .f32⟩
  | 102 => ⟨S1x8, .f32⟩
  | 103 => ⟨S4x8, .f32⟩
  | 104 => ⟨S32, .f32⟩
  | 105 => ⟨S_, .i32⟩
  | 106 => ⟨S_, .f32⟩
  | 107 => ⟨S128, .f32⟩
  | 108 => ⟨S1x128, .f32⟩
  | 109 => ⟨S8, .f32⟩
  | 110 => ⟨S1x8, .f32⟩
  | 111 => ⟨S4x8, .f32⟩
  | 112 => ⟨S32, .f32⟩
  | 113 => ⟨S_, .i32⟩
  | 114 => ⟨S_, .f32⟩
  | 115 => ⟨S128, .f32⟩
  | 116 => ⟨S1x128, .f32⟩
  | 117 => ⟨S1024, .f32⟩
  | 118 => ⟨S1x1024, .f32⟩
  | 119 => ⟨S512, .f32⟩
  | 120 => ⟨S1x512, .f32⟩
  | 121 => ⟨S4x3072, .f32⟩
  | 122 => ⟨S32768x512, .bf16⟩
  | 123 => ⟨S32768x512, .bf16⟩
  | 124 => ⟨S32768x512, .bf16⟩
  | 125 => ⟨S32768x1024, .bf16⟩
  | 126 => ⟨S32768x1024, .bf16⟩
  | 127 => ⟨S32768x1024, .bf16⟩
  | _ => ⟨S32768x1024, .f32⟩

abbrev hbmTy0_1 (i : Nat) : BufTy := match i % 128 with
  | 0 => ⟨S32768x1024, .bf16⟩
  | 1 => ⟨S512x512, .f32⟩
  | 2 => ⟨S32768x1024, .bf16⟩
  | 3 => ⟨S32768x1024, .bf16⟩
  | 4 => ⟨S32768x1024, .bf16⟩
  | 5 => ⟨S32768x1024, .bf16⟩
  | 6 => ⟨S32768x128, .f32⟩
  | 7 => ⟨S128x32768, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x9472, .bf16⟩
  | .local _ .vmem, ⟨6, _⟩ => ⟨S128x512, .bf16⟩
  | .local _ .vmem, ⟨7, _⟩ => ⟨S1x512, .f32⟩
  | .local _ .vmem, ⟨8, _⟩ => ⟨S4x3072, .f32⟩
  | .local _ .vmem, ⟨9, _⟩ => ⟨S1x128, .f32⟩
  | .local _ .vmem, ⟨10, _⟩ => ⟨S1x128, .f32⟩
  | .local _ .vmem, ⟨11, _⟩ => ⟨S128x256, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S8x512, .f32⟩
  | .local _ .vmem, ⟨27, _⟩ => ⟨S8x512, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x128, .f32⟩
  | .local _ .vmem, ⟨37, _⟩ => ⟨S512x128, .f32⟩
  | .local _ .vmem, ⟨38, _⟩ => ⟨S128x512, .f32⟩
  | .local _ .vmem, ⟨39, _⟩ => ⟨S128x512, .f32⟩
  | .local _ .vmem, ⟨40, _⟩ => ⟨S8x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v2 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v3 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_c_2 : Ref sig .tc := ⟨.hbm, 86, rfl⟩
abbrev main_call3_v0 : Ref sig .tc := ⟨.hbm, 87, rfl⟩
abbrev main_v22 : Ref sig .tc := ⟨.hbm, 88, rfl⟩
abbrev main_v23 : Ref sig .tc := ⟨.hbm, 89, rfl⟩
abbrev main_c_3 : Ref sig .tc := ⟨.hbm, 90, rfl⟩
abbrev main_call4_v0 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_c_4 : Ref sig .tc := ⟨.hbm, 96, rfl⟩
abbrev main_call5_v0 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_c_5 : Ref sig .tc := ⟨.hbm, 105, rfl⟩
abbrev main_call6_v0 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_c_6 : Ref sig .tc := ⟨.hbm, 113, rfl⟩
abbrev main_call7_v0 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48_0 : Ref sig .tc := ⟨.hbm, 122, rfl⟩
abbrev main_v48_1 : Ref sig .tc := ⟨.hbm, 123, rfl⟩
abbrev main_v48_2 : Ref sig .tc := ⟨.hbm, 124, rfl⟩
abbrev main_v48_3 : Ref sig .tc := ⟨.hbm, 125, rfl⟩
abbrev main_v48_4 : Ref sig .tc := ⟨.hbm, 126, rfl⟩
abbrev main_v48_5 : Ref sig .tc := ⟨.hbm, 127, rfl⟩
abbrev main_v48_6 : Ref sig .tc := ⟨.hbm, 128, rfl⟩
abbrev main_v48_7 : Ref sig .tc := ⟨.hbm, 129, rfl⟩
abbrev main_v48_8 : Ref sig .tc := ⟨.hbm, 130, rfl⟩
abbrev main_v48_9 : Ref sig .tc := ⟨.hbm, 131, rfl⟩
abbrev main_v48_10 : Ref sig .tc := ⟨.hbm, 132, rfl⟩
abbrev main_v48_11 : Ref sig .tc := ⟨.hbm, 133, rfl⟩
abbrev main_v48_12 : Ref sig .tc := ⟨.hbm, 134, rfl⟩
abbrev main_v48_13 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x9472 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S128x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjRefIdeal.lean ====
abbrev S32768x1024 : Shape := ⟨2, ![32768, 1024]⟩
abbrev S2x6144 : Shape := ⟨2, ![2, 6144]⟩
abbrev S1x1024 : Shape := ⟨2, ![1, 1024]⟩
abbrev S1x1024x9248 : Shape := ⟨3, ![1, 1024, 9248]⟩
abbrev S1x16x512 : Shape := ⟨3, ![1, 16, 512]⟩
abbrev S1x512 : Shape := ⟨2, ![1, 512]⟩
abbrev S1x4x3072 : Shape := ⟨3, ![1, 4, 3072]⟩
abbrev S1x8 : Shape := ⟨2, ![1, 8]⟩
abbrev S2x1024 : Shape := ⟨2, ![2, 1024]⟩
abbrev S2x1x1024 : Shape := ⟨3, ![2, 1, 1024]⟩
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x9248 : Shape := ⟨2, ![1024, 9248]⟩
abbrev S2x16384x9248 : Shape := ⟨3, ![2, 16384, 9248]⟩
abbrev S32768x9248 : Shape := ⟨2, ![32768, 9248]⟩
abbrev S32768x512 : Shape := ⟨2, ![32768, 512]⟩
abbrev S32768x16 : Shape := ⟨2, ![32768, 16]⟩
abbrev S32768x3072 : Shape := ⟨2, ![32768, 3072]⟩
abbrev S32768x8 : Shape := ⟨2, ![32768, 8]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6144, .f32⟩
  | .hbm, ⟨2, _⟩ => ⟨S1x1024, .f32⟩
  | .hbm, ⟨3, _⟩ => ⟨S1x1024x9248, .f32⟩
  | .hbm, ⟨4, _⟩ => ⟨S1x16x512, .f32⟩
  | .hbm, ⟨5, _⟩ => ⟨S1x512, .f32⟩
  | .hbm, ⟨6, _⟩ => ⟨S1x4x3072, .f32⟩
  | .hbm, ⟨7, _⟩ => ⟨S1x8, .f32⟩
  | .hbm, ⟨8, _⟩ => ⟨S1x8, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x16384x1024, .f32⟩
  | .hbm, ⟨22, _⟩ => ⟨S1024, .f32⟩
  | .hbm, ⟨23, _⟩ => ⟨S2x16384x1024, .f32⟩
  | .hbm, ⟨24, _⟩ => ⟨S_, .f32⟩
  | .hbm, ⟨25, _⟩ => ⟨S2x16384, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S2x16384x1, .f32⟩
  | .hbm, ⟨34, _⟩ => ⟨S2x16384x1024, .f32⟩
  | .hbm, ⟨35, _⟩ => ⟨S2x16384x1024, .f32⟩
  | .hbm, ⟨36, _⟩ => ⟨S1x1x1024, .f32⟩
  | .hbm, ⟨37, _⟩ => ⟨S2x16384x1024, .f32⟩
  | .hbm, ⟨38, _⟩ => ⟨S2x16384x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S1024x9248, .f32⟩
  | .hbm, ⟨47, _⟩ => ⟨S2x16384x9248, .f32⟩
  | .hbm, ⟨48, _⟩ => ⟨S32768x9248, .f32⟩
  | .hbm, ⟨49, _⟩ => ⟨S32768x512, .f32⟩
  | .hbm, ⟨50, _⟩ => ⟨S32768x512, .f32⟩
  | .hbm, ⟨51, _⟩ => ⟨S32768x1024, .f32⟩
  | .hbm, ⟨52, _⟩ => ⟨S32768x1024, .f32⟩
  | .hbm, ⟨53, _⟩ => ⟨S32768x16, .f32⟩
  | .hbm, ⟨54, _⟩ => ⟨S32768x3072, .f32⟩
  | .hbm, ⟨55, _⟩ => ⟨S32768x1024, .f32⟩
  | .hbm, ⟨56, _⟩ => ⟨S32768x8, .f32⟩
  | .hbm, ⟨57, _⟩ => ⟨S32768x8, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .bf16⟩
  | .hbm, ⟨79, _⟩ => ⟨S32768x1024, .bf16⟩
  | .hbm, ⟨80, _⟩ => ⟨S32768x1024, .bf16⟩
  | .hbm, ⟨81, _⟩ => ⟨S32768x1024, .bf16⟩
  | .hbm, ⟨82, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v47 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== Proof.MergeRefValue.lean ====
/-
  The merge reference read at one token and one feature: the two branch projections gated and added (`branches`), the
  output projection (`project`), and the normed, gated residual (`residual`).
-/
module

public import proofs.«01_k».proof.Proof.Gen.MergeRefIdeal.Run
public import Idealize.ShloMosaic.Lib.Pointwise

@[expose] public section

set_option maxRecDepth 16384

noncomputable section

namespace Cert.Proof.MergeRef

open Idealize.ShloMosaic Idealize.ShloMosaic.TcCoe Idealize.SL.Sem Idealize.ShloMosaic.StableHlo
open Cert.MergeRefIdeal Cert.MergeRefIdeal.Gen

/-- One mixer's output projected and gated. -/
def branch (o g : FVec Ideal S32768x1024 .bf16) (w : FVec Ideal S1x1024x1024 .f32) : FVec Ideal S2x16384x1024 .f32 :=
  mulf (shapeCast _ (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 g bitsLt_bf16_f32))))) shapeCasts_S32768x1024_S2x16384x1024) (shapeCast _ (Host.dotGeneral dot_S32768x1024_S1024x1024_S32768x1024_1_0_0_1_n_n none (extf .f32 o bitsLt_bf16_f32) (shapeCast _ w shapeCasts_S1x1024x1024_S1024x1024)) shapeCasts_S32768x1024_S2x16384x1024)

/-- The output projection of the two branches' sum. -/
def project (y z : FVec Ideal S2x16384x1024 .f32) (w : FVec Ideal S1x1024x1024 .f32) : FVec Ideal S2x16384x1024 .f32 :=
  Host.dotGeneral dot_S2x16384x1024_S1024x1024_S2x16384x1024_2_0_01_1_n_n none (addf y z) (shapeCast _ w shapeCasts_S1x1024x1024_S1024x1024)

/-- The residual stream with the normed and gated mixer output added. -/
def residual (x : FVec Ideal S32768x1024 .f32) (md : FVec Ideal S2x6144 .f32) (pw : FVec Ideal S1x1024 .f32) (z : FVec Ideal S2x16384x1024 .f32) : FVec Ideal S2x16384x1024 .f32 :=
  addf (shapeCast _ x shapeCasts_S32768x1024_S2x16384x1024) (mulf (broadcastInDim S2x16384x1024 ![0, 1, 2] bcast_S2x1x1024_S2x16384x1024_0_1_2 (broadcastInDim S2x1x1024 ![0, 2] bcast_S2x1024_S2x1x1024_0_2 (extractStridedSlice S2x1024 ![0, 2048] md slices_S2x6144_S2x1024_0_2048))) (mulf (mulf z (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf z z) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ pw shapeCasts_S1x1024_S1024)))))

/-- The token of a sequence and a position in it. -/
def token (r : Fin 2) (p : Fin 16384) : Fin 32768 := ⟨r.val * 16384 + p.val, by omega⟩

theorem branch_at (o g : FVec Ideal S32768x1024 .bf16) (w : FVec Ideal S1x1024x1024 .f32) (r : Fin 2) (p : Fin 16384) (j : Fin 1024) :
    branch o g w (ix3 r p j) = Ideal.div 1 (1 + Ideal.exp (-g (ix2 (token r p) j))) * ∑ x, o (ix2 (token r p) x) * w (ix3 0 x j) := by
  pointwise [branch, token]

theorem project_at (y z : FVec Ideal S2x16384x1024 .f32) (w : FVec Ideal S1x1024x1024 .f32) (r : Fin 2) (p : Fin 16384) (j : Fin 1024) :
    project y z w (ix3 r p j) = ∑ x, (y (ix3 r p x) + z (ix3 r p x)) * w (ix3 0 x j) := by
  pointwise [project]

theorem residual_at (x : FVec Ideal S32768x1024 .f32) (md : FVec Ideal S2x6144 .f32) (pw : FVec Ideal S1x1024 .f32) (z : FVec Ideal S2x16384x1024 .f32) (r : Fin 2) (p : Fin 16384) (j : Fin 1024) :
    residual x md pw z (ix3 r p j) = x (ix2 (token r p) j) + md (ix2 r ⟨2048 + j.val, by omega⟩) *
        (z (ix3 r p j) * Ideal.rsqrt (Ideal.div (∑ x, z (ix3 r p x) * z (ix3 r p x)) (Ideal.ofBits FTy.f32 1149239296#32) + Ideal.ofBits FTy.f32 897988541#32) * pw (ix2 0 j)) := by
  pointwise [residual, token]

theorem flat_at (x : FVec Ideal S2x16384x1024 .f32) (a : Fin 32768) (j : Fin 1024) :
    shapeCast S32768x1024 x shapeCasts_S2x16384x1024_S32768x1024 (ix2 a j) = x (ix3 (⟨a.val / 16384, by omega⟩ : Fin 2) (⟨a.val % 16384, by omega⟩ : Fin 16384) j) := by
  pointwise

theorem token_eq (a : Fin 32768) : token (⟨a.val / 16384, by omega⟩ : Fin 2) (⟨a.val % 16384, by omega⟩ : Fin 16384) = a := by
  apply Fin.ext
  show a.val / 16384 * 16384 + a.val % 16384 = a.val
  omega

/-- The reference's result as a function of its arguments. -/
def term (o o' g g' : FVec Ideal S32768x1024 .bf16) (x : FVec Ideal S32768x1024 .f32) (md : FVec Ideal S2x6144 .f32) (pw : FVec Ideal S1x1024 .f32) (w w' wo : FVec Ideal S1x1024x1024 .f32) : FVec Ideal S32768x1024 .f32 :=
  shapeCast _ (residual x md pw (project (branch o g w) (branch o' g' w') wo)) shapeCasts_S2x16384x1024_S32768x1024

theorem res_eq (m : (ℓ : Loc nD τ sig) → Buf (Elt Ideal) ℓ) (c : Dev nD) : Cert.MergeRefIdeal.Value.res_main_v59 m c =
    term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- The gated sum of the two branches at a token and a feature. -/
def mixed (o o' g g' : FVec Ideal S32768x1024 .bf16) (w w' : FVec Ideal S1x1024x1024 .f32) (a : Fin 32768) (x : Fin 1024) : EReal :=
  Ideal.div 1 (1 + Ideal.exp (-g (ix2 a x))) * (∑ k, o (ix2 a k) * w (ix3 0 k x)) + Ideal.div 1 (1 + Ideal.exp (-g' (ix2 a x))) * ∑ k, o' (ix2 a k) * w' (ix3 0 k x)

/-- The output projection at a token and a feature. -/
def projected (o o' g g' : FVec Ideal S32768x1024 .bf16) (w w' wo : FVec Ideal S1x1024x1024 .f32) (a : Fin 32768) (j : Fin 1024) : EReal :=
  ∑ x, mixed o o' g g' w w' a x * wo (ix3 0 x j)

theorem term_at (o o' g g' : FVec Ideal S32768x1024 .bf16) (x : FVec Ideal S32768x1024 .f32) (md : FVec Ideal S2x6144 .f32) (pw : FVec Ideal S1x1024 .f32) (w w' wo : FVec Ideal S1x1024x1024 .f32) (a : Fin 32768) (j : Fin 1024) :
    term o o' g g' x md pw w w' wo (ix2 a j) = x (ix2 a j) + md (ix2 (⟨a.val / 16384, by omega⟩ : Fin 2) (⟨2048 + j.val, by omega⟩ : Fin 6144)) *
          (projected o o' g g' w w' wo a j * Ideal.rsqrt (Ideal.div (∑ j, projected o o' g g' w w' wo a j * projected o o' g g' w w' wo a j) (Ideal.ofBits FTy.f32 1149239296#32) + Ideal.ofBits FTy.f32 897988541#32) *
            pw (ix2 0 j)) := by
  rw [term, flat_at, residual_at, token_eq]
  simp only [project_at, branch_at, token_eq]
  rfl

theorem term_apply (o o' g g' : FVec Ideal S32768x1024 .bf16) (x : FVec Ideal S32768x1024 .f32) (md : FVec Ideal S2x6144 .f32) (pw : FVec Ideal S1x1024 .f32) (w w' wo : FVec Ideal S1x1024x1024 .f32) (i : S32768x1024.Idx)
    (a : Fin 32768) (j : Fin 1024) (ha : (i 0).val = a.val) (hj : (i 1).val = j.val) :
    term o o' g g' x md pw w w' wo i = x (ix2 a j) + md (ix2 (⟨a.val / 16384, by omega⟩ : Fin 2) (⟨2048 + j.val, by omega⟩ : Fin 6144)) *
          (projected o o' g g' w w' wo a j * Ideal.rsqrt (Ideal.div (∑ j, projected o o' g g' w w' wo a j * projected o o' g g' w w' wo a j) (Ideal.ofBits FTy.f32 1149239296#32) + Ideal.ofBits FTy.f32 897988541#32) *
            pw (ix2 0 j)) := by
  have hi : i = ix2 a j := (eq_ix2 i).trans (congrArg₂ ix2 (Fin.ext ha) (Fin.ext hj))
  exact (congrArg (term o o' g g' x md pw w w' wo) hi).trans (term_at o o' g g' x md pw w w' wo a j)

end Cert.Proof.MergeRef

end
-- ==== Proof.Merge.lean ====
/-
  The merge call: the array it returns is the reference's term of the same arguments.
-/
module

public import proofs.«01_k».proof.Proof.Gen.MergeIdeal.Value
public import proofs.«01_k».proof.Proof.MergeRefValue
public import Idealize.ShloMosaic.Lib.Pointwise
public import Idealize.ShloMosaic.Lib.Pipeline.ValueKit

@[expose] public section

set_option maxRecDepth 16384

noncomputable section

namespace Cert.Proof.Merge

open Idealize.ShloMosaic Idealize.ShloMosaic.TcCoe Idealize.SL.Sem Idealize.ShloMosaic.StableHlo
open Cert.MergeIdeal Cert.MergeIdeal.Gen

variable (m : (ℓ : Loc nD τ sig) → Buf (Elt Ideal) ℓ)

theorem idx : ∀ t : Fin grid0.N, win0_0.index t = ![t.val, 0] ∧ win0_1.index t = ![t.val, 0] ∧ win0_2.index t = ![t.val, 0] ∧ win0_3.index t = ![t.val, 0] ∧ win0_4.index t = ![t.val, 0]
    ∧ win0_5.index t = ![t.val / 16, 0, 0] ∧ win0_6.index t = ![0, 0] ∧ win0_7.index t = ![0, 0] ∧ win0_8.index t = ![0, 0] ∧ win0_9.index t = ![0, 0] ∧ win0_10.index t = ![t.val, 0] := by
  decide +kernel

theorem value (c : Dev nD) : (dats m 0 c).arrAt 10 cfg0.N =
    Cert.Proof.MergeRef.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  blk_simp
  rw [after0_10]
  frame_out
  have hb0 : t.val * 1024 + (y 0).val < 32768 := by
    have h0 := (y 0).isLt; have ht := t.isLt; change _ < 1024 at h0; change _ < 32 at ht; omega
  refine Eq.trans ?_ (Cert.Proof.MergeRef.term_apply _ _ _ _ _ _ _ _ _ _ _ ⟨t.val * 1024 + (y 0).val, hb0⟩ (y 1) ?_ ?_).symm
  · pointwise [k0_pay1, k0_pay2, k0_pay3]
    simp only [Cert.Proof.MergeRef.projected, Cert.Proof.MergeRef.mixed, zero_sub]
    blk_point [iblk, V, idx t]
  · blk_simp [idx t]
  · blk_simp [idx t]

end Cert.Proof.Merge

end
-- ==== Proof.MergeClaim.lean ====
/-
  The claims about the merge call that are not generated: its reference's frame, and the two results equal.
-/
module

public import proofs.«01_k».proof.Defs
public import proofs.«01_k».proof.Proof.Merge
public import Idealize.ShloMosaic.Adequacy
public import Idealize.ShloMosaic.Init

@[expose] public section

noncomputable section

namespace Cert.Proof.Merge

open Idealize.ShloMosaic Idealize.ShloMosaic.TcCoe Idealize.SL.Sem
open Cert.MergeIdeal Cert.MergeIdeal.Gen

/-- The reference's run leaves its arguments and, having no semaphore, every counter at zero. -/
theorem frame_reference : Cert.quiescent_MergeRefIdeal := fun m ρ _ =>
  (θ_run Cert.MergeRefIdeal.defs _ _).mono (fun r h => ⟨fun c => (h c).2, sem_eq_zero_of_no_sems (by decide) r.2⟩) (Cert.MergeRefIdeal.Value.run (F := Ideal) m ρ)

/-- The kernel's array and the reference's are the same function of the arguments. -/
theorem algebraic : Cert.algebraic_MergeIdeal_MergeRefIdeal := fun m ρ m' ρ' _ hag =>
  ⟨fun c => Cert.Proof.MergeRef.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)),
    (θ_run defs _ _).mono (fun _ h c => ⟨(h c).1.trans (value m c), (h c).2⟩) (Cert.MergeIdeal.Value.run_blocks m ρ),
    (θ_run Cert.MergeRefIdeal.defs _ _).mono (fun _ h c => ⟨(h c).1.trans ((Cert.Proof.MergeRef.res_eq m' c).trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2])), (h c).2⟩)
      (Cert.MergeRefIdeal.Value.run (F := Ideal) m' ρ')⟩

end Cert.Proof.Merge

end
-- ==== Proof.MlpRefValue.lean ====
/-
  The feed-forward reference read at one token and one feature: the modulated norm (`hidden`), the up-projection with its
  squared positive part (`act`), the down-projection (`project`), and the normed, gated residual (`residual`).
-/
module

public import proofs.«01_k».proof.Proof.Gen.MlpRefIdeal.Run
public import Idealize.ShloMosaic.Lib.Pointwise

@[expose] public section

set_option maxRecDepth 16384

noncomputable section

namespace Cert.Proof.MlpRef

open Idealize.ShloMosaic Idealize.ShloMosaic.TcCoe Idealize.SL.Sem Idealize.ShloMosaic.StableHlo
open Cert.MlpRefIdeal Cert.MlpRefIdeal.Gen

/-- The root-mean-square norm of every token. -/
def norm (x : FVec Ideal S2x16384x1024 .f32) (pw : FVec Ideal S1x1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ pw shapeCasts_S1x1024_S1024)))

/-- The normed residual stream, scaled and shifted. -/
def hidden (x : FVec Ideal S32768x1024 .f32) (md : FVec Ideal S2x6144 .f32) (pw : FVec Ideal S1x1024 .f32) : FVec Ideal S2x16384x1024 .f32 :=
  addf (mulf (norm (shapeCast _ x shapeCasts_S32768x1024_S2x16384x1024) pw) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] md slices_S2x6144_S2x1024_0_4096))))) (broadcastInDim S2x16384x1024 ![0, 1, 2] bcast_S2x1x1024_S2x16384x1024_0_1_2 (broadcastInDim S2x1x1024 ![0, 2] bcast_S2x1024_S2x1x1024_0_2 (extractStridedSlice S2x1024 ![0, 3072] md slices_S2x6144_S2x1024_0_3072)))

/-- The positive part of the up-projection. -/
def act (h : FVec Ideal S2x16384x1024 .f32) (w : FVec Ideal S1x1024x4096 .f32) : FVec Ideal S2x16384x4096 .f32 :=
  maximumf (Host.dotGeneral dot_S2x16384x1024_S1024x4096_S2x16384x4096_2_0_01_1_n_n none h (shapeCast _ w shapeCasts_S1x1024x4096_S1024x4096)) (broadcastInDim S2x16384x4096 ![] bcast_S_S2x16384x4096 (constant S_ .f32 0x00000000#32))

/-- The down-projection of the square. -/
def project (a : FVec Ideal S2x16384x4096 .f32) (w : FVec Ideal S1x4096x1024 .f32) : FVec Ideal S2x16384x1024 .f32 :=
  Host.dotGeneral dot_S2x16384x4096_S4096x1024_S2x16384x1024_2_0_01_1_n_n none (mulf a a) (shapeCast _ w shapeCasts_S1x4096x1024_S4096x1024)

/-- The residual stream with the normed and gated output added. -/
def residual (x : FVec Ideal S32768x1024 .f32) (md : FVec Ideal S2x6144 .f32) (y : FVec Ideal S2x16384x1024 .f32) : FVec Ideal S2x16384x1024 .f32 :=
  addf (shapeCast _ x shapeCasts_S32768x1024_S2x16384x1024) (mulf (broadcastInDim S2x16384x1024 ![0, 1, 2] bcast_S2x1x1024_S2x16384x1024_0_1_2 (broadcastInDim S2x1x1024 ![0, 2] bcast_S2x1024_S2x1x1024_0_2 (extractStridedSlice S2x1024 ![0, 5120] md slices_S2x6144_S2x1024_0_5120))) y)

/-- The reference's result as a function of its arguments. -/
def term (x : FVec Ideal S32768x1024 .f32) (md : FVec Ideal S2x6144 .f32) (pw qw : FVec Ideal S1x1024 .f32) (w : FVec Ideal S1x1024x4096 .f32) (w' : FVec Ideal S1x4096x1024 .f32) : FVec Ideal S32768x1024 .f32 :=
  shapeCast _ (residual x md (norm (project (act (hidden x md pw) w) w') qw)) shapeCasts_S2x16384x1024_S32768x1024

theorem res_eq (m : (ℓ : Loc nD τ sig) → Buf (Elt Ideal) ℓ) (c : Dev nD) : Cert.MlpRefIdeal.Value.res_main_v56 m c =
    term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The token of a sequence and a position in it. -/
def token (r : Fin 2) (p : Fin 16384) : Fin 32768 := ⟨r.val * 16384 + p.val, by omega⟩

/-- One feature of a normed row. -/
def normRow (x : Fin 1024 → EReal) (w : EReal) (j : Fin 1024) : EReal :=
  x j * Ideal.rsqrt (Ideal.div (∑ k, x k * x k) (Ideal.ofBits FTy.f32 1149239296#32) + Ideal.ofBits FTy.f32 897988541#32) * w

theorem norm_at (x : FVec Ideal S2x16384x1024 .f32) (pw : FVec Ideal S1x1024 .f32) (r : Fin 2) (p : Fin 16384) (j : Fin 1024) :
    norm x pw (ix3 r p j) = normRow (fun k => x (ix3 r p k)) (pw (ix2 0 j)) j := by
  pointwise [norm, normRow]

theorem stream_at (x : FVec Ideal S32768x1024 .f32) (r : Fin 2) (p : Fin 16384) (j : Fin 1024) :
    shapeCast S2x16384x1024 x shapeCasts_S32768x1024_S2x16384x1024 (ix3 r p j) = x (ix2 (token r p) j) := by
  pointwise [token]

theorem hidden_at (x : FVec Ideal S32768x1024 .f32) (md : FVec Ideal S2x6144 .f32) (pw : FVec Ideal S1x1024 .f32) (r : Fin 2) (p : Fin 16384) (j : Fin 1024) :
    hidden x md pw (ix3 r p j) = normRow (fun k => x (ix2 (token r p) k)) (pw (ix2 0 j)) j * (1 + md (ix2 r ⟨4096 + j.val, by omega⟩)) + md (ix2 r ⟨3072 + j.val, by omega⟩) := by
  have h := norm_at (shapeCast S2x16384x1024 x shapeCasts_S32768x1024_S2x16384x1024) pw r p j
  simp only [stream_at] at h
  rw [← h]
  unfold hidden
  generalize norm (shapeCast S2x16384x1024 x shapeCasts_S32768x1024_S2x16384x1024) pw = n
  pointwise

theorem act_at (h : FVec Ideal S2x16384x1024 .f32) (w : FVec Ideal S1x1024x4096 .f32) (r : Fin 2) (p : Fin 16384) (k : Fin 4096) :
    act h w (ix3 r p k) = max (∑ x, h (ix3 r p x) * w (ix3 0 x k)) 0 := by
  pointwise [act]

theorem project_at (a : FVec Ideal S2x16384x4096 .f32) (w : FVec Ideal S1x4096x1024 .f32) (r : Fin 2) (p : Fin 16384) (j : Fin 1024) :
    project a w (ix3 r p j) = ∑ k, a (ix3 r p k) * a (ix3 r p k) * w (ix3 0 k j) := by
  pointwise [project]

theorem residual_at (x : FVec Ideal S32768x1024 .f32) (md : FVec Ideal S2x6144 .f32) (y : FVec Ideal S2x16384x1024 .f32) (r : Fin 2) (p : Fin 16384) (j : Fin 1024) :
    residual x md y (ix3 r p j) = x (ix2 (token r p) j) + md (ix2 r ⟨5120 + j.val, by omega⟩) * y (ix3 r p j) := by
  pointwise [residual, token]

theorem flat_at (x : FVec Ideal S2x16384x1024 .f32) (a : Fin 32768) (j : Fin 1024) :
    shapeCast S32768x1024 x shapeCasts_S2x16384x1024_S32768x1024 (ix2 a j) = x (ix3 (⟨a.val / 16384, by omega⟩ : Fin 2) (⟨a.val % 16384, by omega⟩ : Fin 16384) j) := by
  pointwise

theorem token_eq (a : Fin 32768) : token (⟨a.val / 16384, by omega⟩ : Fin 2) (⟨a.val % 16384, by omega⟩ : Fin 16384) = a := by
  apply Fin.ext
  show a.val / 16384 * 16384 + a.val % 16384 = a.val
  omega

/-- The hidden row of a token, from its residual row and the sequence's scale and shift. -/
def hiddenRow (x pw sc sh : Fin 1024 → EReal) (j : Fin 1024) : EReal := normRow x (pw j) j * (1 + sc j) + sh j

/-- One hidden unit: the squared positive part of its product with the hidden row. -/
def unit (h : Fin 1024 → EReal) (w : Fin 1024 → EReal) : EReal := max (∑ x, h x * w x) 0 * max (∑ x, h x * w x) 0

/-- A token's output row from its residual row: every array as a function of its own coordinates. -/
def outRow (x pw qw sc sh ga : Fin 1024 → EReal) (proj : (Fin 1024 → EReal) → Fin 1024 → EReal) (j : Fin 1024) : EReal :=
  x j + ga j * normRow (proj (hiddenRow x pw sc sh)) (qw j) j

/-- The down-projection of a hidden row. -/
def projRow (w : Fin 1024 → Fin 4096 → EReal) (w' : Fin 4096 → Fin 1024 → EReal) (h : Fin 1024 → EReal) (j : Fin 1024) : EReal :=
  ∑ k, unit h (fun x => w x k) * w' k j

theorem term_at (x : FVec Ideal S32768x1024 .f32) (md : FVec Ideal S2x6144 .f32) (pw qw : FVec Ideal S1x1024 .f32) (w : FVec Ideal S1x1024x4096 .f32) (w' : FVec Ideal S1x4096x1024 .f32) (a : Fin 32768) (j : Fin 1024) :
    term x md pw qw w w' (ix2 a j) = outRow (fun k => x (ix2 a k)) (fun k => pw (ix2 0 k)) (fun k => qw (ix2 0 k))
      (fun k => md (ix2 (⟨a.val / 16384, by omega⟩ : Fin 2) (⟨4096 + k.val, by omega⟩ : Fin 6144))) (fun k => md (ix2 (⟨a.val / 16384, by omega⟩ : Fin 2) (⟨3072 + k.val, by omega⟩ : Fin 6144)))
      (fun k => md (ix2 (⟨a.val / 16384, by omega⟩ : Fin 2) (⟨5120 + k.val, by omega⟩ : Fin 6144))) (projRow (fun x k => w (ix3 0 x k)) (fun k j => w' (ix3 0 k j))) j := by
  rw [term, flat_at, residual_at, token_eq, norm_at]
  simp only [project_at, act_at, hidden_at, token_eq]
  rfl

/-- A sum over the 4096 hidden units as four sums of 1024 added one after another. -/
theorem sum_split (f : Fin 4096 → EReal) : ∑ k, f k =
    0 + (∑ x : Fin 1024, f ⟨x.val, by omega⟩) + (∑ x : Fin 1024, f ⟨1024 + x.val, by omega⟩) + (∑ x : Fin 1024, f ⟨2048 + x.val, by omega⟩) + ∑ x : Fin 1024, f ⟨3072 + x.val, by omega⟩ := by
  rw [zero_add]
  exact (Fin.sum_univ_add (a := 3072) (b := 1024) f).trans (congrArg₂ (· + ·) ((Fin.sum_univ_add (a := 2048) (b := 1024) _).trans
    (congrArg₂ (· + ·) (Fin.sum_univ_add (a := 1024) (b := 1024) _) rfl)) rfl)

/-- The down-projection in four blocks of hidden units, each with its own columns and rows of the weights. -/
def projTiles (a0 b0 a1 b1 a2 b2 a3 b3 : Fin 1024 → Fin 1024 → EReal) (h : Fin 1024 → EReal) (j : Fin 1024) : EReal :=
  0 + (∑ k, unit h (fun x => a0 x k) * b0 k j) + (∑ k, unit h (fun x => a1 x k) * b1 k j) + (∑ k, unit h (fun x => a2 x k) * b2 k j) + ∑ k, unit h (fun x => a3 x k) * b3 k j

theorem projRow_eq (w : Fin 1024 → Fin 4096 → EReal) (w' : Fin 4096 → Fin 1024 → EReal) : projRow w w' =
    projTiles (fun x k => w x ⟨k.val, by omega⟩) (fun k => w' ⟨k.val, by omega⟩) (fun x k => w x ⟨1024 + k.val, by omega⟩) (fun k => w' ⟨1024 + k.val, by omega⟩)
      (fun x k => w x ⟨2048 + k.val, by omega⟩) (fun k => w' ⟨2048 + k.val, by omega⟩) (fun x k => w x ⟨3072 + k.val, by omega⟩) (fun k => w' ⟨3072 + k.val, by omega⟩) := by
  funext h j
  exact sum_split _

theorem term_apply (x : FVec Ideal S32768x1024 .f32) (md : FVec Ideal S2x6144 .f32) (pw qw : FVec Ideal S1x1024 .f32) (w : FVec Ideal S1x1024x4096 .f32) (w' : FVec Ideal S1x4096x1024 .f32) (i : S32768x1024.Idx)
    (a : Fin 32768) (j : Fin 1024) (ha : (i 0).val = a.val) (hj : (i 1).val = j.val) :
    term x md pw qw w w' i = outRow (fun k => x (ix2 a k)) (fun k => pw (ix2 0 k)) (fun k => qw (ix2 0 k))
      (fun k => md (ix2 (⟨a.val / 16384, by omega⟩ : Fin 2) (⟨4096 + k.val, by omega⟩ : Fin 6144))) (fun k => md (ix2 (⟨a.val / 16384, by omega⟩ : Fin 2) (⟨3072 + k.val, by omega⟩ : Fin 6144)))
      (fun k => md (ix2 (⟨a.val / 16384, by omega⟩ : Fin 2) (⟨5120 + k.val, by omega⟩ : Fin 6144))) (projRow (fun x k => w (ix3 0 x k)) (fun k j => w' (ix3 0 k j))) j := by
  have hi : i = ix2 a j := (eq_ix2 i).trans (congrArg₂ ix2 (Fin.ext ha) (Fin.ext hj))
  exact (congrArg (term x md pw qw w w') hi).trans (term_at x md pw qw w w' a j)

end Cert.Proof.MlpRef

end
-- ==== Proof.MlpSlab.lean ====
/-
  The feed-forward kernel's block: four slabs of 256 rows, each the same function (`slab`) of its rows and of the weights'
  four column and row blocks.
-/
module

public import proofs.«01_k».proof.Proof.Gen.MlpIdeal.Value
public import proofs.«01_k».proof.Proof.MlpRefValue
public import Idealize.ShloMosaic.Lib.Pointwise
public import Idealize.ShloMosaic.Lib.Pipeline.ValueKit

@[expose] public section

set_option maxRecDepth 16384

noncomputable section

namespace Cert.Proof.Mlp

open Idealize.ShloMosaic Idealize.ShloMosaic.TcCoe Idealize.SL.Sem
open Cert.MlpIdeal Cert.MlpIdeal.Gen
open Cert.Proof.MlpRef (normRow hiddenRow unit outRow projTiles)

variable {F : FTy → Type} [FloatOps F]

/-- One block of hidden units taken up and down again. -/
def tile (h : FVec F S256x1024 .bf16) (a b : Vec F S1024x1024 .bf16) : FVec F S256x1024 .f32 :=
  matmul dot_S256x1024_S1024x1024_S256x1024_1_0_0_1_n_n none (k0_pay14 h a) (shapeCast S1024x1024 b shapeCasts_S1024x1024_S1024x1024) (constant S256x1024 .f32 0x00000000#32)

/-- The four blocks of hidden units added one after another. -/
def total (h : FVec F S256x1024 .bf16) (a0 b0 a1 b1 a2 b2 a3 b3 : Vec F S1024x1024 .bf16) : FVec F S256x1024 .f32 :=
  addf (addf (addf (addf k0_pay11 (tile h a0 b0)) (tile h a1 b1)) (tile h a2 b2)) (tile h a3 b3)

/-- The normed, gated output added to the rows. -/
def finish (x : Vec F S256x1024 .f32) (md : Vec F S1x6x1024 .f32) (qw : Vec F S1x1024 .f32) (y : FVec F S256x1024 .f32) : FVec F S256x1024 .f32 :=
  k0_pay9 x y (k0_pay6 (k0_pay2 md)) (k0_pay7 qw) (mulf y y)

/-- One slab of 256 rows. -/
def slab (x : Vec F S256x1024 .f32) (md : Vec F S1x6x1024 .f32) (pw qw : Vec F S1x1024 .f32) (a0 b0 a1 b1 a2 b2 a3 b3 : Vec F S1024x1024 .bf16) : FVec F S256x1024 .f32 :=
  finish x md qw (total (k0_pay3 md x pw) a0 b0 a1 b1 a2 b2 a3 b3)

theorem out_eq (x0 : Vec F S1024x1024 .f32) (x1 : Vec F S1x6x1024 .f32) (x2 x3 : Vec F S1x1024 .f32) (x4 : Vec F S1024x4096 .bf16) (x5 : Vec F S4096x1024 .bf16) : out0_6 x0 x1 x2 x3 x4 x5 =
    View.canon [⟨r0_13, slab (View.ld x0 r0_13) (View.ld x1 r0_0) (View.ld x2 r0_2) (View.ld x3 r0_2) (View.ld x4 r0_3) (View.ld x5 r0_4) (View.ld x4 r0_5) (View.ld x5 r0_6) (View.ld x4 r0_7) (View.ld x5 r0_8) (View.ld x4 r0_9) (View.ld x5 r0_10)⟩,
      ⟨r0_12, slab (View.ld x0 r0_12) (View.ld x1 r0_0) (View.ld x2 r0_2) (View.ld x3 r0_2) (View.ld x4 r0_3) (View.ld x5 r0_4) (View.ld x4 r0_5) (View.ld x5 r0_6) (View.ld x4 r0_7) (View.ld x5 r0_8) (View.ld x4 r0_9) (View.ld x5 r0_10)⟩,
      ⟨r0_11, slab (View.ld x0 r0_11) (View.ld x1 r0_0) (View.ld x2 r0_2) (View.ld x3 r0_2) (View.ld x4 r0_3) (View.ld x5 r0_4) (View.ld x4 r0_5) (View.ld x5 r0_6) (View.ld x4 r0_7) (View.ld x5 r0_8) (View.ld x4 r0_9) (View.ld x5 r0_10)⟩,
      ⟨r0_1, slab (View.ld x0 r0_1) (View.ld x1 r0_0) (View.ld x2 r0_2) (View.ld x3 r0_2) (View.ld x4 r0_3) (View.ld x5 r0_4) (View.ld x4 r0_5) (View.ld x5 r0_6) (View.ld x4 r0_7) (View.ld x5 r0_8) (View.ld x4 r0_9) (View.ld x5 r0_10)⟩] := rfl

theorem hidden_at (x : Vec Ideal S256x1024 .f32) (md : Vec Ideal S1x6x1024 .f32) (pw : Vec Ideal S1x1024 .f32) (p : Fin 256) (j : Fin 1024) :
    k0_pay3 md x pw (ix2 p j) = hiddenRow (fun k => x (ix2 p k)) (fun k => pw (ix2 0 k)) (fun k => md (ix3 0 4 k)) (fun k => md (ix3 0 3 k)) j := by
  pointwise [k0_pay3, k0_pay2, hiddenRow, normRow]

theorem tile_at (h : FVec Ideal S256x1024 .bf16) (a b : Vec Ideal S1024x1024 .bf16) (p : Fin 256) (j : Fin 1024) :
    tile h a b (ix2 p j) = ∑ k, unit (fun x => h (ix2 p x)) (fun x => a (ix2 x k)) * b (ix2 k j) := by
  pointwise [tile, k0_pay14, unit]

theorem total_at (h : FVec Ideal S256x1024 .bf16) (a0 b0 a1 b1 a2 b2 a3 b3 : Vec Ideal S1024x1024 .bf16) (p : Fin 256) (j : Fin 1024) :
    total h a0 b0 a1 b1 a2 b2 a3 b3 (ix2 p j) = projTiles (fun x k => a0 (ix2 x k)) (fun x k => b0 (ix2 x k)) (fun x k => a1 (ix2 x k)) (fun x k => b1 (ix2 x k))
      (fun x k => a2 (ix2 x k)) (fun x k => b2 (ix2 x k)) (fun x k => a3 (ix2 x k)) (fun x k => b3 (ix2 x k)) (fun x => h (ix2 p x)) j := by
  have h0 : (k0_pay11 (F := Ideal)) (ix2 p j) = 0 := by pointwise [k0_pay11]
  show (k0_pay11 (F := Ideal)) (ix2 p j) + tile h a0 b0 (ix2 p j) + tile h a1 b1 (ix2 p j) + tile h a2 b2 (ix2 p j) + tile h a3 b3 (ix2 p j) = _
  rw [h0]
  simp only [tile_at]
  rfl

theorem finish_at (x : Vec Ideal S256x1024 .f32) (md : Vec Ideal S1x6x1024 .f32) (qw : Vec Ideal S1x1024 .f32) (y : FVec Ideal S256x1024 .f32) (p : Fin 256) (j : Fin 1024) :
    finish x md qw y (ix2 p j) = x (ix2 p j) + md (ix3 0 5 j) * normRow (fun k => y (ix2 p k)) (qw (ix2 0 j)) j := by
  pointwise [finish, k0_pay9, k0_pay7, k0_pay6, k0_pay2, normRow]

theorem slab_at (x : Vec Ideal S256x1024 .f32) (md : Vec Ideal S1x6x1024 .f32) (pw qw : Vec Ideal S1x1024 .f32) (a0 b0 a1 b1 a2 b2 a3 b3 : Vec Ideal S1024x1024 .bf16) (p : Fin 256) (j : Fin 1024) :
    slab x md pw qw a0 b0 a1 b1 a2 b2 a3 b3 (ix2 p j) = outRow (fun k => x (ix2 p k)) (fun k => pw (ix2 0 k)) (fun k => qw (ix2 0 k)) (fun k => md (ix3 0 4 k)) (fun k => md (ix3 0 3 k)) (fun k => md (ix3 0 5 k))
      (projTiles (fun x k => a0 (ix2 x k)) (fun x k => b0 (ix2 x k)) (fun x k => a1 (ix2 x k)) (fun x k => b1 (ix2 x k))
        (fun x k => a2 (ix2 x k)) (fun x k => b2 (ix2 x k)) (fun x k => a3 (ix2 x k)) (fun x k => b3 (ix2 x k))) j := by
  rw [slab, finish_at]
  simp only [total_at, hidden_at]
  rfl

theorem up_0 (x4 : Vec Ideal S1024x4096 .bf16) (x k : Fin 1024) : View.ld x4 r0_3 (ix2 x k) = x4 (ix2 x ⟨k.val, by omega⟩) := View.ld_unit_apply_of _ _ _ _ _ _ (by intro a; fin_cases a <;> simp)
theorem down_0 (x5 : Vec Ideal S4096x1024 .bf16) (k j : Fin 1024) : View.ld x5 r0_4 (ix2 k j) = x5 (ix2 ⟨k.val, by omega⟩ j) := View.ld_unit_apply_of _ _ _ _ _ _ (by intro a; fin_cases a <;> simp)
theorem up_1 (x4 : Vec Ideal S1024x4096 .bf16) (x k : Fin 1024) : View.ld x4 r0_5 (ix2 x k) = x4 (ix2 x ⟨1024 + k.val, by omega⟩) := View.ld_unit_apply_of _ _ _ _ _ _ (by intro a; fin_cases a <;> simp)
theorem down_1 (x5 : Vec Ideal S4096x1024 .bf16) (k j : Fin 1024) : View.ld x5 r0_6 (ix2 k j) = x5 (ix2 ⟨1024 + k.val, by omega⟩ j) := View.ld_unit_apply_of _ _ _ _ _ _ (by intro a; fin_cases a <;> simp)
theorem up_2 (x4 : Vec Ideal S1024x4096 .bf16) (x k : Fin 1024) : View.ld x4 r0_7 (ix2 x k) = x4 (ix2 x ⟨2048 + k.val, by omega⟩) := View.ld_unit_apply_of _ _ _ _ _ _ (by intro a; fin_cases a <;> simp)
theorem down_2 (x5 : Vec Ideal S4096x1024 .bf16) (k j : Fin 1024) : View.ld x5 r0_8 (ix2 k j) = x5 (ix2 ⟨2048 + k.val, by omega⟩ j) := View.ld_unit_apply_of _ _ _ _ _ _ (by intro a; fin_cases a <;> simp)
theorem up_3 (x4 : Vec Ideal S1024x4096 .bf16) (x k : Fin 1024) : View.ld x4 r0_9 (ix2 x k) = x4 (ix2 x ⟨3072 + k.val, by omega⟩) := View.ld_unit_apply_of _ _ _ _ _ _ (by intro a; fin_cases a <;> simp)
theorem down_3 (x5 : Vec Ideal S4096x1024 .bf16) (k j : Fin 1024) : View.ld x5 r0_10 (ix2 k j) = x5 (ix2 ⟨3072 + k.val, by omega⟩ j) := View.ld_unit_apply_of _ _ _ _ _ _ (by intro a; fin_cases a <;> simp)
theorem rows_0 (x0 : Vec Ideal S1024x1024 .f32) (a : Fin 256) (p k : Fin 1024) (hp : p.val = a.val) : View.ld x0 r0_1 (ix2 a k) = x0 (ix2 p k) := View.ld_unit_apply_of _ _ _ _ _ _ (by intro a'; fin_cases a' <;> simp [hp])
theorem rows_1 (x0 : Vec Ideal S1024x1024 .f32) (a : Fin 256) (p k : Fin 1024) (hp : p.val = 256 + a.val) : View.ld x0 r0_11 (ix2 a k) = x0 (ix2 p k) := View.ld_unit_apply_of _ _ _ _ _ _ (by intro a'; fin_cases a' <;> simp [hp])
theorem rows_2 (x0 : Vec Ideal S1024x1024 .f32) (a : Fin 256) (p k : Fin 1024) (hp : p.val = 512 + a.val) : View.ld x0 r0_12 (ix2 a k) = x0 (ix2 p k) := View.ld_unit_apply_of _ _ _ _ _ _ (by intro a'; fin_cases a' <;> simp [hp])
theorem rows_3 (x0 : Vec Ideal S1024x1024 .f32) (a : Fin 256) (p k : Fin 1024) (hp : p.val = 768 + a.val) : View.ld x0 r0_13 (ix2 a k) = x0 (ix2 p k) := View.ld_unit_apply_of _ _ _ _ _ _ (by intro a'; fin_cases a' <;> simp [hp])
theorem gates (x1 : Vec Ideal S1x6x1024 .f32) (i : Fin 6) (k : Fin 1024) : View.ld x1 r0_0 (ix3 0 i k) = x1 (ix3 0 i k) := View.ld_unit_apply_of _ _ _ _ _ _ (by intro a; fin_cases a <;> simp)
theorem weights (x2 : Vec Ideal S1x1024 .f32) (k : Fin 1024) : View.ld x2 r0_2 (ix2 0 k) = x2 (ix2 0 k) := View.ld_unit_apply_of _ _ _ _ _ _ (by intro a; fin_cases a <;> simp)

/-- A slab read at a row and a feature, its arrays given by their entries. -/
theorem slab_read (x : Vec Ideal S256x1024 .f32) (md : Vec Ideal S1x6x1024 .f32) (pw qw : Vec Ideal S1x1024 .f32) (a0 b0 a1 b1 a2 b2 a3 b3 : Vec Ideal S1024x1024 .bf16) (p : Fin 256) (j : Fin 1024)
    (X PW QW SC SH GA : Fin 1024 → EReal) (A0 B0 A1 B1 A2 B2 A3 B3 : Fin 1024 → Fin 1024 → EReal) (hx : ∀ k, x (ix2 p k) = X k) (hpw : ∀ k, pw (ix2 0 k) = PW k) (hqw : ∀ k, qw (ix2 0 k) = QW k)
    (hsc : ∀ k, md (ix3 0 4 k) = SC k) (hsh : ∀ k, md (ix3 0 3 k) = SH k) (hga : ∀ k, md (ix3 0 5 k) = GA k)
    (ha0 : ∀ x k, a0 (ix2 x k) = A0 x k) (hb0 : ∀ x k, b0 (ix2 x k) = B0 x k) (ha1 : ∀ x k, a1 (ix2 x k) = A1 x k) (hb1 : ∀ x k, b1 (ix2 x k) = B1 x k) (ha2 : ∀ x k, a2 (ix2 x k) = A2 x k) (hb2 : ∀ x k, b2 (ix2 x k) = B2 x k) (ha3 : ∀ x k, a3 (ix2 x k) = A3 x k) (hb3 : ∀ x k, b3 (ix2 x k) = B3 x k) :
    slab x md pw qw a0 b0 a1 b1 a2 b2 a3 b3 (ix2 p j) = outRow X PW QW SC SH GA (projTiles A0 B0 A1 B1 A2 B2 A3 B3) j := by
  rw [slab_at]
  simp only [hx, hpw, hqw, hsc, hsh, hga, ha0, hb0, ha1, hb1, ha2, hb2, ha3, hb3]

/-- The whole block at a row and a feature. -/
theorem out_at (x0 : Vec Ideal S1024x1024 .f32) (x1 : Vec Ideal S1x6x1024 .f32) (x2 x3 : Vec Ideal S1x1024 .f32) (x4 : Vec Ideal S1024x4096 .bf16) (x5 : Vec Ideal S4096x1024 .bf16) (p j : Fin 1024) :
    out0_6 x0 x1 x2 x3 x4 x5 (ix2 p j) = outRow (fun k => x0 (ix2 p k)) (fun k => x2 (ix2 0 k)) (fun k => x3 (ix2 0 k)) (fun k => x1 (ix3 0 4 k)) (fun k => x1 (ix3 0 3 k)) (fun k => x1 (ix3 0 5 k))
      (projTiles (fun x k => x4 (ix2 x ⟨k.val, by omega⟩)) (fun k j => x5 (ix2 ⟨k.val, by omega⟩ j)) (fun x k => x4 (ix2 x ⟨1024 + k.val, by omega⟩)) (fun k j => x5 (ix2 ⟨1024 + k.val, by omega⟩ j))
        (fun x k => x4 (ix2 x ⟨2048 + k.val, by omega⟩)) (fun k j => x5 (ix2 ⟨2048 + k.val, by omega⟩ j)) (fun x k => x4 (ix2 x ⟨3072 + k.val, by omega⟩)) (fun k j => x5 (ix2 ⟨3072 + k.val, by omega⟩ j))) j := by
  rw [out_eq]
  canon_tiles x h
  all_goals
    obtain ⟨a, b, rfl⟩ : ∃ (a : Fin 256) (b : Fin 1024), x = ix2 a b := ⟨_, _, eq_ix2 x⟩
    obtain rfl : j = b := Fin.ext h1
  · exact slab_read _ _ _ _ _ _ _ _ _ _ _ _ a j _ _ _ _ _ _ _ _ _ _ _ _ _ _ (fun k => rows_3 x0 a p k h0) (weights x2) (weights x3) (gates x1 4) (gates x1 3) (gates x1 5) (up_0 x4) (down_0 x5) (up_1 x4) (down_1 x5) (up_2 x4) (down_2 x5) (up_3 x4) (down_3 x5)
  · exact slab_read _ _ _ _ _ _ _ _ _ _ _ _ a j _ _ _ _ _ _ _ _ _ _ _ _ _ _ (fun k => rows_2 x0 a p k h0) (weights x2) (weights x3) (gates x1 4) (gates x1 3) (gates x1 5) (up_0 x4) (down_0 x5) (up_1 x4) (down_1 x5) (up_2 x4) (down_2 x5) (up_3 x4) (down_3 x5)
  · exact slab_read _ _ _ _ _ _ _ _ _ _ _ _ a j _ _ _ _ _ _ _ _ _ _ _ _ _ _ (fun k => rows_1 x0 a p k h0) (weights x2) (weights x3) (gates x1 4) (gates x1 3) (gates x1 5) (up_0 x4) (down_0 x5) (up_1 x4) (down_1 x5) (up_2 x4) (down_2 x5) (up_3 x4) (down_3 x5)
  · exact slab_read _ _ _ _ _ _ _ _ _ _ _ _ a j _ _ _ _ _ _ _ _ _ _ _ _ _ _ (fun k => rows_0 x0 a p k h0) (weights x2) (weights x3) (gates x1 4) (gates x1 3) (gates x1 5) (up_0 x4) (down_0 x5) (up_1 x4) (down_1 x5) (up_2 x4) (down_2 x5) (up_3 x4) (down_3 x5)

end Cert.Proof.Mlp

end
-- ==== Proof.Mlp.lean ====
/-
  The feed-forward call: the array it returns is the reference's term of the same arguments.
-/
module

public import proofs.«01_k».proof.Proof.MlpSlab

@[expose] public section

set_option maxRecDepth 16384

noncomputable section

namespace Cert.Proof.Mlp

open Idealize.ShloMosaic Idealize.ShloMosaic.TcCoe Idealize.SL.Sem Idealize.ShloMosaic.StableHlo
open Cert.MlpIdeal Cert.MlpIdeal.Gen
open Cert.Proof.MlpRef (outRow projTiles projRow_eq)

variable (m : (ℓ : Loc nD τ sig) → Buf (Elt Ideal) ℓ)

/-- The block every window reads or writes at a grid point. -/
theorem idx : ∀ t : Fin grid0.N, win0_0.index t = ![t.val, 0] ∧ win0_1.index t = ![t.val / 16, 0, 0] ∧ win0_2.index t = ![0, 0] ∧ win0_3.index t = ![0, 0] ∧ win0_4.index t = ![0, 0]
    ∧ win0_5.index t = ![0, 0] ∧ win0_6.index t = ![t.val, 0] := by
  decide +kernel

theorem x_at (c : Dev nD) (t : Fin cfg0.N) (p k : Fin 1024) (a : Fin 32768) (ha : a.val = t.val * 1024 + p.val) : iblk m c 0 t (ix2 p k) = m ((c.tc : Thread nD τ).loc main_arg0) (ix2 a k) := by
  blk_point [iblk, V, idx t, ha]
theorem md_at (c : Dev nD) (t : Fin cfg0.N) (i : Fin 6) (k : Fin 1024) (r : Fin 2) (l : Fin 6144) (hr : r.val = t.val / 16) (hl : l.val = i.val * 1024 + k.val) : iblk m c 1 t (ix3 0 i k) = m ((c.tc : Thread nD τ).loc main_arg1) (ix2 r l) := by
  blk_point [iblk, V, idx t, hr, hl]
theorem pre_at (c : Dev nD) (t : Fin cfg0.N) (k : Fin 1024) : iblk m c 2 t (ix2 0 k) = m ((c.tc : Thread nD τ).loc main_arg2) (ix2 0 k) := by
  blk_point [iblk, V, idx t]
theorem post_at (c : Dev nD) (t : Fin cfg0.N) (k : Fin 1024) : iblk m c 3 t (ix2 0 k) = m ((c.tc : Thread nD τ).loc main_arg3) (ix2 0 k) := by
  blk_point [iblk, V, idx t]
theorem up_at (c : Dev nD) (t : Fin cfg0.N) (x : Fin 1024) (k : Fin 4096) : iblk m c 4 t (ix2 x k) = m ((c.tc : Thread nD τ).loc main_arg4) (ix3 0 x k) := by
  blk_point [iblk, V, idx t]
theorem down_at (c : Dev nD) (t : Fin cfg0.N) (k : Fin 4096) (j : Fin 1024) : iblk m c 5 t (ix2 k j) = m ((c.tc : Thread nD τ).loc main_arg5) (ix3 0 k j) := by
  blk_point [iblk, V, idx t]

theorem value (c : Dev nD) : (dats m 0 c).arrAt 6 cfg0.N =
    Cert.Proof.MlpRef.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ (by decide +kernel) fun t hf y => ?_
  blk_simp
  rw [after0_6]
  obtain ⟨p, j, rfl⟩ : ∃ (p j : Fin 1024), y = ix2 p j := ⟨_, _, eq_ix2 y⟩
  have hb0 : t.val * 1024 + p.val < 32768 := by
    have ht := t.isLt; change _ < 32 at ht; omega
  refine Eq.trans (out_at _ _ _ _ _ _ p j) (Eq.trans ?_ (Cert.Proof.MlpRef.term_apply _ _ _ _ _ _ _ ⟨t.val * 1024 + p.val, hb0⟩ j ?_ ?_).symm)
  · rw [projRow_eq]
    have hr : (⟨(t.val * 1024 + p.val) / 16384, by omega⟩ : Fin 2).val = t.val / 16 := by
      show (t.val * 1024 + p.val) / 16384 = t.val / 16
      omega
    simp only [x_at m c t p _ ⟨t.val * 1024 + p.val, hb0⟩ rfl, pre_at, post_at, up_at, down_at]
    have h4 : ∀ k : Fin 1024, iblk m c 1 t (ix3 0 4 k) = _ := fun k => md_at m c t 4 k _ ⟨4096 + k.val, by omega⟩ hr rfl
    have h3 : ∀ k : Fin 1024, iblk m c 1 t (ix3 0 3 k) = _ := fun k => md_at m c t 3 k _ ⟨3072 + k.val, by omega⟩ hr rfl
    have h5 : ∀ k : Fin 1024, iblk m c 1 t (ix3 0 5 k) = _ := fun k => md_at m c t 5 k _ ⟨5120 + k.val, by omega⟩ hr rfl
    simp only [h3, h4, h5]
  · blk_simp [idx t]
  · blk_simp [idx t]

end Cert.Proof.Mlp

end
-- ==== Proof.MlpClaim.lean ====
/-
  The claims about the feed-forward call that are not generated: its reference's frame, and the two results equal.
-/
module

public import proofs.«01_k».proof.Defs
public import proofs.«01_k».proof.Proof.Mlp
public import Idealize.ShloMosaic.Adequacy
public import Idealize.ShloMosaic.Init

@[expose] public section

noncomputable section

namespace Cert.Proof.Mlp

open Idealize.ShloMosaic Idealize.ShloMosaic.TcCoe Idealize.SL.Sem
open Cert.MlpIdeal Cert.MlpIdeal.Gen

/-- The reference's run leaves its arguments and, having no semaphore, every counter at zero. -/
theorem frame_reference : Cert.quiescent_MlpRefIdeal := fun m ρ _ =>
  (θ_run Cert.MlpRefIdeal.defs _ _).mono (fun r h => ⟨fun c => (h c).2, sem_eq_zero_of_no_sems (by decide) r.2⟩) (Cert.MlpRefIdeal.Value.run (F := Ideal) m ρ)

/-- The kernel's array and the reference's are the same function of the arguments. -/
theorem algebraic : Cert.algebraic_MlpIdeal_MlpRefIdeal := fun m ρ m' ρ' _ hag =>
  ⟨fun c => Cert.Proof.MlpRef.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run defs _ _).mono (fun _ h c => ⟨(h c).1.trans (value m c), (h c).2⟩) (Cert.MlpIdeal.Value.run_blocks m ρ),
    (θ_run Cert.MlpRefIdeal.defs _ _).mono (fun _ h c => ⟨(h c).1.trans ((Cert.Proof.MlpRef.res_eq m' c).trans (by rw [(hag c).1, (hag c).2.1, (hag c).2.2.1, (hag c).2.2.2.1, (hag c).2.2.2.2.1, (hag c).2.2.2.2.2])), (h c).2⟩)
      (Cert.MlpRefIdeal.Value.run (F := Ideal) m' ρ')⟩

end Cert.Proof.Mlp

end
-- ==== Proof.MixStage.lean ====
module
/-
The gated linear attention inside one grid step of the mixing call, as functions of the slabs that the step loads:
the causal products of a group of four chunks, the state after each chunk, and the rows that are stored.
One function serves every batch row, head and chunk.
-/
public import proofs.«01_k».proof.Proof.Gen.MixIdeal.Value
public import Idealize.ShloMosaic.Lib.Pointwise
public import Idealize.ShloMosaic.Lib.Pipeline.ValueKit

@[expose] public section

set_option maxRecDepth 16384

noncomputable section

namespace Cert.Proof.Mix

open Idealize.ShloMosaic Idealize.ShloMosaic.TcCoe Idealize.SL.Sem
open Cert.MixIdeal Cert.MixIdeal.Gen

variable {F : FTy → Type} [FloatOps F]

/-- Column `c` of the transposed decays is a column. -/
theorem slices_dec (c : ℕ) (hc : c < 4) : S128x8.Slices ![0, c] S128x1 := by
  interval_cases c <;> decide

/-- Rows `64 c … 64 c + 63` of 128 columns lie in the group. -/
theorem slices_key (c : ℕ) (hc : c < 4) : S256x128.Slices ![64 * c, 0] S64x128 := by
  interval_cases c <;> decide

/-- Rows `64 c … 64 c + 63` of 256 columns lie in the group. -/
theorem slices_val (c : ℕ) (hc : c < 4) : S256x256.Slices ![64 * c, 0] S64x256 := by
  interval_cases c <;> decide

/-- Head `h`'s 128 columns lie in the decays. -/
theorem slices_head (h : ℕ) (hh : h < 4) : S8x512.Slices ![0, 128 * h] S8x128 := by
  interval_cases h <;> decide

/-- Where chunk `c` of head `h` and batch row `b` is stored. -/
theorem inb_out (b h c : ℕ) (hb : b < 2) (hh : h < 4) (hc : c < 4) :
    ∀ a, (![b, 64 * c, 256 * h] : Fin 3 → ℕ) a + S1x64x256.size a ≤ S2x256x1024.size a := by
  interval_cases b <;> interval_cases h <;> interval_cases c <;> decide

/-- Where head `h`'s keys of batch row `b` are loaded. -/
theorem inb_key (b h : ℕ) (hb : b < 2) (hh : h < 4) :
    ∀ a, (![b, 0, 128 * h] : Fin 3 → ℕ) a + S1x256x128.size a ≤ S2x256x512.size a := by
  interval_cases b <;> interval_cases h <;> decide

/-- Where head `h`'s values of batch row `b` are loaded. -/
theorem inb_val (b h : ℕ) (hb : b < 2) (hh : h < 4) :
    ∀ a, (![b, 0, 256 * h] : Fin 3 → ℕ) a + S1x256x256.size a ≤ S2x256x1024.size a := by
  interval_cases b <;> interval_cases h <;> decide

/-- Where batch row `b`'s decays are loaded. -/
theorem inb_dec (b : ℕ) (hb : b < 2) :
    ∀ a, (![b, 0, 0, 0] : Fin 4 → ℕ) a + S1x1x4x512.size a ≤ S2x1x4x512.size a := by
  interval_cases b <;> decide

/-- Where the state of head `h` and batch row `b` is kept. -/
theorem inb_state (b h : ℕ) (hb : b < 2) (hh : h < 4) :
    ∀ a, (![4 * b + h, 0, 0] : Fin 3 → ℕ) a + S1x128x256.size a ≤ S8x128x256.size a := by
  interval_cases b <;> interval_cases h <;> decide

/-- The rectangle of chunk `c` of head `h` and batch row `b` in the output. -/
abbrev outRect (b h c : ℕ) (hb : b < 2) (hh : h < 4) (hc : c < 4) : Rect S2x256x1024 :=
  Rect.unit ![b, 64 * c, 256 * h] S1x64x256.size (inb_out b h c hb hh hc)

/-- The rectangle of head `h`'s keys of batch row `b`. -/
abbrev keyRect (b h : ℕ) (hb : b < 2) (hh : h < 4) : Rect S2x256x512 :=
  Rect.unit ![b, 0, 128 * h] S1x256x128.size (inb_key b h hb hh)

/-- The rectangle of head `h`'s values of batch row `b`. -/
abbrev valRect (b h : ℕ) (hb : b < 2) (hh : h < 4) : Rect S2x256x1024 :=
  Rect.unit ![b, 0, 256 * h] S1x256x256.size (inb_val b h hb hh)

/-- The rectangle of batch row `b`'s decays. -/
abbrev decRect (b : ℕ) (hb : b < 2) : Rect S2x1x4x512 :=
  Rect.unit ![b, 0, 0, 0] S1x1x4x512.size (inb_dec b hb)

/-- The rectangle of head `h`'s state of batch row `b`. -/
abbrev stateRect (b h : ℕ) (hb : b < 2) (hh : h < 4) : Rect S8x128x256 :=
  Rect.unit ![4 * b + h, 0, 0] S1x128x256.size (inb_state b h hb hh)

/-- The rectangle of the norm's weights: all of them. -/
abbrev normRect : Rect S1x256 := Rect.unit ![0, 0] S1x256.size inb_S1x256_S1x256_0_0

/-- The rectangle of the whole scratch. -/
abbrev wholeRect : Rect S8x128x256 := Rect.unit ![0, 0, 0] S8x128x256.size inb_S8x128x256_S8x128x256_0_0_0

/-- Head `h`'s decays, one column for each chunk of the group. -/
def decT (h : ℕ) (hh : h < 4) (d : Vec F S1x1x4x512 .f32) : FVec F S128x8 .f32 :=
  transpose S128x8 [1, 0] (extractStridedSlice S8x128 ![0, 128 * h] (k0_pay31 d) (slices_head h hh))
    transposes_S8x128_p1_0_S128x8

/-- The state after chunk `c`: decayed, plus the chunk's keys times its values. -/
def stNext (c : ℕ) (hc : c < 4) (e : FVec F S128x8 .f32) (k : FVec F S256x128 .bf16) (v : FVec F S256x256 .bf16)
    (s : FVec F S128x256 .f32) : FVec F S128x256 .f32 :=
  addf (mulf s (broadcastTo S128x256 (extractStridedSlice S128x1 ![0, c] e (slices_dec c hc)) broadcasts_S128x1_S128x256))
    (matmul dot_S64x128_S64x256_S128x256_0_0_1_1_n_n none (extractStridedSlice S64x128 ![64 * c, 0] k (slices_key c hc))
      (extractStridedSlice S64x256 ![64 * c, 0] v (slices_val c hc)) (constant S128x256 .f32 0x00000000#32))

/-- The state before chunk `n` of the group, from the state `s` before the group. -/
def stAt (e : FVec F S128x8 .f32) (k : FVec F S256x128 .bf16) (v : FVec F S256x256 .bf16)
    (s : FVec F S128x256 .f32) : (n : ℕ) → n ≤ 4 → FVec F S128x256 .f32
  | 0, _ => s
  | n + 1, h => stNext n h e k v (stAt e k v s n (Nat.le_of_succ_le h))

/-- A chunk's rows before the norm: the causal products plus the queries times the state. -/
def rowsOf (c : ℕ) (hc : c < 4) (q : FVec F S256x128 .bf16) (o : FVec F S256x256 .f32) (s : FVec F S128x256 .f32) :
    FVec F S64x256 .f32 :=
  addf (extractStridedSlice S64x256 ![64 * c, 0] o (slices_val c hc))
    (matmul dot_S64x128_S128x256_S64x256_1_0_0_1_n_n none (extractStridedSlice S64x128 ![64 * c, 0] q (slices_key c hc))
      (truncf .bf16 s bitsLt_bf16_f32) (constant S64x256 .f32 0x00000000#32))

/-- What is stored of a chunk's rows: normed, weighted and gated. -/
def normed (r : FVec F S64x256 .f32) (na : Vec F S1x256 .f32) (g : Vec F S1x64x256 .bf16) : FVec F S1x64x256 .bf16 :=
  k0_pay284 r na g

/-- A state before the group, as it is loaded. -/
def st0 (s : Vec F S1x128x256 .f32) : FVec F S128x256 .f32 := shapeCast S128x256 s shapeCasts_S1x128x256_S128x256

/-- The stored rows of chunk `c` of head `h`, from the loaded slabs. -/
def outPiece (h c : ℕ) (hh : h < 4) (hc : c < 4) (q k ks : Vec F S1x256x128 .bf16) (v : Vec F S1x256x256 .bf16)
    (d : Vec F S1x1x4x512 .f32) (s : Vec F S1x128x256 .f32) (na : Vec F S1x256 .f32) (g : Vec F S1x64x256 .bf16) :
    FVec F S1x64x256 .bf16 :=
  normed (rowsOf c hc (k0_pay173 q) (k0_pay176 k0_pay4 q v k)
    (stAt (decT h hh d) (k0_pay174 ks) (k0_pay175 v) (st0 s) c (Nat.le_of_lt hc))) na g

/-- The state of head `h` after the group, as it is stored. -/
def stPiece (h : ℕ) (hh : h < 4) (ks : Vec F S1x256x128 .bf16) (v : Vec F S1x256x256 .bf16)
    (d : Vec F S1x1x4x512 .f32) (s : Vec F S1x128x256 .f32) : FVec F S1x128x256 .f32 :=
  k0_pay1208 (stAt (decT h hh d) (k0_pay174 ks) (k0_pay175 v) (st0 s) 4 (Nat.le_refl 4))

end Cert.Proof.Mix

end
-- ==== Proof.MixRunA.lean ====
module
/-
What the mixing call stores in the first grid step, whose state starts at zero: every stored piece of the attention's output is `outPiece` of the
loaded slabs at some batch row, head and chunk, and every stored piece of the state is `stPiece`.
-/
public import proofs.«01_k».proof.Proof.MixStage

@[expose] public section

set_option maxRecDepth 16384

noncomputable section

namespace Cert.Proof.Mix

open Idealize.ShloMosaic Idealize.ShloMosaic.TcCoe Idealize.SL.Sem
open Cert.MixIdeal Cert.MixIdeal.Gen

variable {F : FTy → Type} [FloatOps F]

/-- The pieces of the attention's output. -/
theorem outsA (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : cond0_0 i)
    (x0 : Vec F S2x256x512 .bf16) (x1 : Vec F S2x256x512 .bf16) (x2 : Vec F S2x256x512 .bf16) (x3 : Vec F S2x256x1024 .bf16) (x4 : Vec F S2x256x1024 .bf16) (x5 : Vec F S2x1x4x512 .f32) (x6 : Vec F S2x256x1024 .bf16) (x7 : Vec F S2x256x1024 .bf16) (x8 : Vec F S2x256x1024 .bf16) (x9 : Vec F S2x256x1024 .bf16) (x10 : Vec F S2x256x128 .f32) (x11 : Vec F S128x256 .f32) (x12 : Vec F S128x256 .f32) (x13 : Vec F S1x256 .f32) (x14 : Vec F S1x128 .f32) :
    ∀ p ∈ (kernelRun0_A dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1,
      ∃ (b h c : ℕ) (hb : b < 2) (hh : h < 4) (hc : c < 4), p = ⟨outRect b h c hb hh hc,
        outPiece h c hh hc (arg1.view.readAt (Elt F) (keyRect b h hb hh).toLoadRect (harg1.unread x0))
          (arg2.view.readAt (Elt F) (keyRect b h hb hh).toLoadRect (harg2.unread x1))
          (arg3.view.readAt (Elt F) (keyRect b h hb hh).toLoadRect (harg3.unread x2))
          (arg4.view.readAt (Elt F) (valRect b h hb hh).toLoadRect (harg4.unread x3))
          (arg6.view.readAt (Elt F) (decRect b hb).toLoadRect (harg6.unread x5))
          (arg18.view.readCov [⟨wholeRect, k0_pay2⟩] (stateRect b h hb hh).toLoadRect)
          (arg14.view.readAt (Elt F) (normRect).toLoadRect (harg14.unread x13))
          (arg5.view.readAt (Elt F) (outRect b h c hb hh hc).toLoadRect (harg5.unread x4))⟩ := by
  refine List.forall_mem_cons.2 ⟨⟨1, 3, 3, (by decide), (by decide), (by decide), rfl⟩, ?_⟩
  refine List.forall_mem_cons.2 ⟨⟨1, 2, 3, (by decide), (by decide), (by decide), rfl⟩, ?_⟩
  refine List.forall_mem_cons.2 ⟨⟨1, 1, 3, (by decide), (by decide), (by decide), rfl⟩, ?_⟩
  refine List.forall_mem_cons.2 ⟨⟨1, 0, 3, (by decide), (by decide), (by decide), rfl⟩, ?_⟩
  refine List.forall_mem_cons.2 ⟨⟨1, 3, 2, (by decide), (by decide), (by decide), rfl⟩, ?_⟩
  refine List.forall_mem_cons.2 ⟨⟨1, 2, 2, (by decide), (by decide), (by decide), rfl⟩, ?_⟩
  refine List.forall_mem_cons.2 ⟨⟨1, 1, 2, (by decide), (by decide), (by decide), rfl⟩, ?_⟩
  refine List.forall_mem_cons.2 ⟨⟨1, 0, 2, (by decide), (by decide), (by decide), rfl⟩, ?_⟩
  refine List.forall_mem_cons.2 ⟨⟨1, 3, 1, (by decide), (by decide), (by decide), rfl⟩, ?_⟩
  refine List.forall_mem_cons.2 ⟨⟨1, 2, 1, (by decide), (by decide), (by decide), rfl⟩, ?_⟩
  refine List.forall_mem_cons.2 ⟨⟨1, 1, 1, (by decide), (by decide), (by decide), rfl⟩, ?_⟩
  refine List.forall_mem_cons.2 ⟨⟨1, 0, 1, (by decide), (by decide), (by decide), rfl⟩, ?_⟩
  refine List.forall_mem_cons.2 ⟨⟨1, 3, 0, (by decide), (by decide), (by decide), rfl⟩, ?_⟩
  refine List.forall_mem_cons.2 ⟨⟨1, 2, 0, (by decide), (by decide), (by decide), rfl⟩, ?_⟩
  refine List.forall_mem_cons.2 ⟨⟨1, 1, 0, (by decide), (by decide), (by decide), rfl⟩, ?_⟩
  refine List.forall_mem_cons.2 ⟨⟨1, 0, 0, (by decide), (by decide), (by decide), rfl⟩, ?_⟩
  refine List.forall_mem_cons.2 ⟨⟨0, 3, 3, (by decide), (by decide), (by decide), rfl⟩, ?_⟩
  refine List.forall_mem_cons.2 ⟨⟨0, 2, 3, (by decide), (by decide), (by decide), rfl⟩, ?_⟩
  refine List.forall_mem_cons.2 ⟨⟨0, 1, 3, (by decide), (by decide), (by decide), rfl⟩, ?_⟩
  refine List.forall_mem_cons.2 ⟨⟨0, 0, 3, (by decide), (by decide), (by decide), rfl⟩, ?_⟩
  refine List.forall_mem_cons.2 ⟨⟨0, 3, 2, (by decide), (by decide), (by decide), rfl⟩, ?_⟩
  refine List.forall_mem_cons.2 ⟨⟨0, 2, 2, (by decide), (by decide), (by decide), rfl⟩, ?_⟩
  refine List.forall_mem_cons.2 ⟨⟨0, 1, 2, (by decide), (by decide), (by decide), rfl⟩, ?_⟩
  refine List.forall_mem_cons.2 ⟨⟨0, 0, 2, (by decide), (by decide), (by decide), rfl⟩, ?_⟩
  refine List.forall_mem_cons.2 ⟨⟨0, 3, 1, (by decide), (by decide), (by decide), rfl⟩, ?_⟩
  refine List.forall_mem_cons.2 ⟨⟨0, 2, 1, (by decide), (by decide), (by decide), rfl⟩, ?_⟩
  refine List.forall_mem_cons.2 ⟨⟨0, 1, 1, (by decide), (by decide), (by decide), rfl⟩, ?_⟩
  refine List.forall_mem_cons.2 ⟨⟨0, 0, 1, (by decide), (by decide), (by decide), rfl⟩, ?_⟩
  refine List.forall_mem_cons.2 ⟨⟨0, 3, 0, (by decide), (by decide), (by decide), rfl⟩, ?_⟩
  refine List.forall_mem_cons.2 ⟨⟨0, 2, 0, (by decide), (by decide), (by decide), rfl⟩, ?_⟩
  refine List.forall_mem_cons.2 ⟨⟨0, 1, 0, (by decide), (by decide), (by decide), rfl⟩, ?_⟩
  refine List.forall_mem_cons.2 ⟨⟨0, 0, 0, (by decide), (by decide), (by decide), rfl⟩, ?_⟩
  exact List.forall_mem_nil _

/-- The pieces of the state. -/
theorem statesA (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : cond0_0 i)
    (x0 : Vec F S2x256x512 .bf16) (x1 : Vec F S2x256x512 .bf16) (x2 : Vec F S2x256x512 .bf16) (x3 : Vec F S2x256x1024 .bf16) (x4 : Vec F S2x256x1024 .bf16) (x5 : Vec F S2x1x4x512 .f32) (x6 : Vec F S2x256x1024 .bf16) (x7 : Vec F S2x256x1024 .bf16) (x8 : Vec F S2x256x1024 .bf16) (x9 : Vec F S2x256x1024 .bf16) (x10 : Vec F S2x256x128 .f32) (x11 : Vec F S128x256 .f32) (x12 : Vec F S128x256 .f32) (x13 : Vec F S1x256 .f32) (x14 : Vec F S1x128 .f32) :
    ∀ p ∈ (kernelRun0_A dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1.take 8,
      ∃ (b h : ℕ) (hb : b < 2) (hh : h < 4), p = ⟨stateRect b h hb hh,
        stPiece h hh (arg3.view.readAt (Elt F) (keyRect b h hb hh).toLoadRect (harg3.unread x2))
          (arg4.view.readAt (Elt F) (valRect b h hb hh).toLoadRect (harg4.unread x3))
          (arg6.view.readAt (Elt F) (decRect b hb).toLoadRect (harg6.unread x5))
          (arg18.view.readCov [⟨wholeRect, k0_pay2⟩] (stateRect b h hb hh).toLoadRect)⟩ := by
  refine List.forall_mem_cons.2 ⟨⟨1, 3, (by decide), (by decide), rfl⟩, ?_⟩
  refine List.forall_mem_cons.2 ⟨⟨1, 2, (by decide), (by decide), rfl⟩, ?_⟩
  refine List.forall_mem_cons.2 ⟨⟨1, 1, (by decide), (by decide), rfl⟩, ?_⟩
  refine List.forall_mem_cons.2 ⟨⟨1, 0, (by decide), (by decide), rfl⟩, ?_⟩
  refine List.forall_mem_cons.2 ⟨⟨0, 3, (by decide), (by decide), rfl⟩, ?_⟩
  refine List.forall_mem_cons.2 ⟨⟨0, 2, (by decide), (by decide), rfl⟩, ?_⟩
  refine List.forall_mem_cons.2 ⟨⟨0, 1, (by decide), (by decide), rfl⟩, ?_⟩
  refine List.forall_mem_cons.2 ⟨⟨0, 0, (by decide), (by decide), rfl⟩, ?_⟩
  exact List.forall_mem_nil _

end Cert.Proof.Mix

end
-- ==== Proof.GlaSpec.lean ====
/-
  The gated linear attention in plain sums over the extended reals, for arrays given by their entries (a row and a column,
  both natural numbers), and the one fact about sums that a group of four chunks needs.
-/
module

public import Idealize.ShloMosaic.Lib.Pointwise
public import Idealize.ShloMosaic.Lib.Pipeline.ValueKit

@[expose] public section

noncomputable section

namespace Cert.Proof.GlaSpec

open Idealize.ShloMosaic Idealize.SL.Sem

/-- A matrix's entry, zero outside it. -/
def entry {m n : ℕ} {t : FTy} (X : FVec Ideal ⟨2, ![m, n]⟩ t) (r c : ℕ) : EReal :=
  if h : r < m ∧ c < n then X (ix2 ⟨r, h.1⟩ ⟨c, h.2⟩) else 0

/-- An entry inside the matrix. -/
theorem entry_of {m n : ℕ} {t : FTy} (X : FVec Ideal ⟨2, ![m, n]⟩ t) (r c : ℕ) (a : Fin m) (b : Fin n)
    (ha : r = a.val) (hb : c = b.val) : entry X r c = X (ix2 a b) := by
  subst ha hb
  exact dif_pos ⟨a.isLt, b.isLt⟩

variable (q k ks v d g : ℕ → ℕ → EReal) (w : ℕ → EReal)

/-- The state of batch row `b` and head `h` before chunk `n`: row `a` of the keys against column `e` of the values. -/
def state (b h : ℕ) : ℕ → ℕ → ℕ → EReal
  | 0 => fun _ _ => 0
  | n + 1 => fun a e => state b h n a e * d (256 * b + n) (128 * h + a)
      + ∑ i : Fin 64, ks (16384 * b + 64 * n + i) (128 * h + a) * v (16384 * b + 64 * n + i) (256 * h + e)

/-- The product of row `i`'s query and row `j`'s key within chunk `n`. -/
def score (b h n i j : ℕ) : EReal :=
  ∑ a : Fin 128, q (16384 * b + 64 * n + i) (128 * h + a) * k (16384 * b + 64 * n + j) (128 * h + a)

/-- Row `i` of chunk `n` before the norm: the causal scores times the values, plus the query times the state. -/
def row (b h n i e : ℕ) : EReal :=
  (∑ j : Fin 64, (if j.val ≤ i then score q k b h n i j else 0) * v (16384 * b + 64 * n + j) (256 * h + e))
    + ∑ a : Fin 128, q (16384 * b + 64 * n + i) (128 * h + a) * state ks v d b h n a e

/-- A row's factor by the root-mean-square norm. -/
def scale (r : Fin 256 → EReal) : EReal :=
  Ideal.rsqrt (Ideal.div (∑ e, r e * r e) (Scalar.ofBits (F := Ideal) .f32 0x43800000#32) + Scalar.ofBits (F := Ideal) .f32 0x358637BD#32)

/-- The layer's output at row `i` of chunk `n`. -/
def out (b h n i e : ℕ) : EReal :=
  row q k ks v d b h n i e * scale (fun e : Fin 256 => row q k ks v d b h n i e) * w e * g (16384 * b + 64 * n + i) (256 * h + e)

/-- A sum over a group's 256 rows that vanishes off chunk `c` is the sum over the chunk's 64 rows. -/
theorem sum_chunk (f : Fin 256 → EReal) (c : ℕ) (hc : c < 4) (h : ∀ j : Fin 256, j.val / 64 ≠ c → f j = 0) :
    ∑ j, f j = ∑ j : Fin 64, f ⟨64 * c + j.val, by omega⟩ := by
  symm
  refine Finset.sum_of_injOn (fun j : Fin 64 => (⟨64 * c + j.val, by omega⟩ : Fin 256)) ?_ ?_ ?_ ?_
  · intro a _ b _ hab
    have := congrArg Fin.val hab
    apply Fin.ext; simp at this; omega
  · intro _ _; simp
  · intro j _ hj
    refine h j fun hjc => hj ?_
    refine ⟨⟨j.val - 64 * c, by omega⟩, by simp, ?_⟩
    apply Fin.ext
    show 64 * c + (j.val - 64 * c) = j.val
    omega
  · intro _ _; rfl

end Cert.Proof.GlaSpec

end
-- ==== Proof.MixRead.lean ====
/-
  One grid step of the attention read at coordinates over the extended reals.
-/
module

public import proofs.«01_k».proof.Proof.MixStage
public import proofs.«01_k».proof.Proof.GlaSpec

@[expose] public section

set_option maxRecDepth 16384

noncomputable section

namespace Cert.Proof.Mix

open Idealize.ShloMosaic Idealize.ShloMosaic.TcCoe Idealize.SL.Sem
open Cert.MixIdeal Cert.MixIdeal.Gen

/-- The transposed decays: row `a`, chunk `c` of head `h`. -/
theorem decT_at (h : ℕ) (hh : h < 4) (d : Vec Ideal S1x1x4x512 .f32) (a : Fin 128) (c : ℕ) (hc : c < 4) :
    decT h hh d (ix2 a ⟨c, by omega⟩) = d (ix4 0 0 ⟨c, hc⟩ ⟨128 * h + a.val, by omega⟩) := by
  pointwise [decT, k0_pay31]
  exact dif_pos hc

/-- One chunk's update of the state. -/
theorem stNext_at (c : ℕ) (hc : c < 4) (e : FVec Ideal S128x8 .f32) (k : FVec Ideal S256x128 .bf16) (v : FVec Ideal S256x256 .bf16)
    (s : FVec Ideal S128x256 .f32) (a : Fin 128) (b : Fin 256) :
    stNext c hc e k v s (ix2 a b) = s (ix2 a b) * e (ix2 a ⟨c, by omega⟩)
      + ∑ i : Fin 64, k (ix2 ⟨64 * c + i.val, by omega⟩ a) * v (ix2 ⟨64 * c + i.val, by omega⟩ b) := by
  pointwise [stNext]

/-- A chunk's rows before the norm. -/
theorem rowsOf_at (c : ℕ) (hc : c < 4) (q : FVec Ideal S256x128 .bf16) (o : FVec Ideal S256x256 .f32) (s : FVec Ideal S128x256 .f32)
    (i : Fin 64) (b : Fin 256) :
    rowsOf c hc q o s (ix2 i b) = o (ix2 ⟨64 * c + i.val, by omega⟩ b) + ∑ a : Fin 128, q (ix2 ⟨64 * c + i.val, by omega⟩ a) * s (ix2 a b) := by
  pointwise [rowsOf]

/-- The norm, its weights and the gate. -/
theorem normed_at (r : FVec Ideal S64x256 .f32) (na : Vec Ideal S1x256 .f32) (g : Vec Ideal S1x64x256 .bf16) (i : Fin 64) (b : Fin 256) :
    normed r na g (ix3 0 i b) = r (ix2 i b) * GlaSpec.scale (fun e => r (ix2 i e)) * na (ix2 0 b) * g (ix3 0 i b) := by
  pointwise [normed, k0_pay284, GlaSpec.scale]

/-- The loaded slabs lose their leading axis. -/
theorem q_at (x : Vec Ideal S1x256x128 .bf16) (i : Fin 256) (a : Fin 128) : k0_pay173 x (ix2 i a) = x (ix3 0 i a) := by
  pointwise [k0_pay173]
theorem ks_at (x : Vec Ideal S1x256x128 .bf16) (i : Fin 256) (a : Fin 128) : k0_pay174 x (ix2 i a) = x (ix3 0 i a) := by
  pointwise [k0_pay174]
theorem v_at (x : Vec Ideal S1x256x256 .bf16) (i : Fin 256) (a : Fin 256) : k0_pay175 x (ix2 i a) = x (ix3 0 i a) := by
  pointwise [k0_pay175]
theorem st0_at (x : Vec Ideal S1x128x256 .f32) (i : Fin 128) (a : Fin 256) : st0 x (ix2 i a) = x (ix3 0 i a) := by
  pointwise [st0]
theorem kept_at (x : FVec Ideal S128x256 .f32) (i : Fin 128) (a : Fin 256) : k0_pay1208 x (ix3 0 i a) = x (ix2 i a) := by
  pointwise [k0_pay1208]

/-- A row's chunk within its group. -/
theorem shift_at (i : Fin 256) : IntOp.shrsi ArithUnit.vector (BitVec.ofNat 32 i.val) 6#32 = BitVec.ofNat 32 (i.val / 64) := by
  revert i; decide +kernel

/-- Two chunks' numbers compared. -/
theorem equal_at (a b : Fin 4) : IntOp.cmpi CmpIPredicate.eq (BitVec.ofNat 32 a.val) (BitVec.ofNat 32 b.val) = if a.val = b.val then 1#1 else 0#1 := by
  revert a b; decide +kernel

/-- Two rows' numbers compared. -/
theorem upto_at (i j : Fin 256) : IntOp.cmpi CmpIPredicate.sle (BitVec.ofNat 32 j.val) (BitVec.ofNat 32 i.val) = if j.val ≤ i.val then 1#1 else 0#1 := by
  have hx : ∀ x : Fin 256, (BitVec.ofNat 32 x.val).toInt = (x.val : Int) := by decide +kernel
  simp only [IntOp.cmpi, BitVec.sle, hx, Int.ofNat_le]
  by_cases h : j.val ≤ i.val <;> simp [h]

/-- The mask: row `i` sees row `j` of its own chunk, up to itself. -/
theorem mask_at (i j : Fin 256) : k0_pay4 (ix2 i j) = if i.val / 64 = j.val / 64 ∧ j.val ≤ i.val then 1#1 else 0#1 := by
  pointwise [k0_pay4]
  rw [shift_at, shift_at, equal_at ⟨i.val / 64, by omega⟩ ⟨j.val / 64, by omega⟩, upto_at]
  by_cases h1 : i.val / 64 = j.val / 64 <;> by_cases h2 : j.val ≤ i.val <;> simp [h1, h2] <;> decide

/-- Where the mask is set. -/
theorem mask_iff (i j : Fin 256) : k0_pay4 (ix2 i j) = 1#1 ↔ i.val / 64 = j.val / 64 ∧ j.val ≤ i.val := by
  rw [mask_at]
  split <;> simp_all

/-- The causal products of a group, under any mask. -/
theorem within_at (m : IVec S256x256 1) (q k : Vec Ideal S1x256x128 .bf16) (v : Vec Ideal S1x256x256 .bf16) (i e : Fin 256) :
    k0_pay176 m q v k (ix2 i e) = ∑ j : Fin 256, (if m (ix2 i j) = 1#1 then ∑ a : Fin 128, q (ix3 0 i a) * k (ix3 0 j a) else 0) * v (ix3 0 j e) := by
  pointwise [k0_pay176, k0_pay175, k0_pay173]
  refine Finset.sum_congr rfl fun j _ => ?_
  by_cases hm : m (ix2 i j) = 1#1 <;> simp [Scalar.select, hm]

end Cert.Proof.Mix

end
-- ==== Proof.MixGroup.lean ====
/-
  One grid step of the attention against the plain sums: when the loaded slabs hold the arrays' entries of the group that starts
  at chunk `n`, and the kept state is the state before chunk `n`, the stored rows and the stored state are the plain sums.
-/
module

public import proofs.«01_k».proof.Proof.MixRead

@[expose] public section

set_option maxRecDepth 16384

noncomputable section

namespace Cert.Proof.Mix

open Idealize.ShloMosaic Idealize.ShloMosaic.TcCoe Idealize.SL.Sem
open Cert.MixIdeal Cert.MixIdeal.Gen

variable {q k ks : Vec Ideal S1x256x128 .bf16} {v : Vec Ideal S1x256x256 .bf16} {d : Vec Ideal S1x1x4x512 .f32}
  {s : Vec Ideal S1x128x256 .f32} {na : Vec Ideal S1x256 .f32} {g : Vec Ideal S1x64x256 .bf16}
  {Q K KS V D G : ℕ → ℕ → EReal} {W : ℕ → EReal} {b h n : ℕ}

/-- The state before chunk `c` of the group. -/
theorem stAt_read (hh : h < 4)
    (hks : ∀ (i : Fin 256) (a : Fin 128) (r : ℕ), r = 16384 * b + 64 * n + i → ks (ix3 0 i a) = KS r (128 * h + a))
    (hv : ∀ (i : Fin 256) (e : Fin 256) (r : ℕ), r = 16384 * b + 64 * n + i → v (ix3 0 i e) = V r (256 * h + e))
    (hd : ∀ (c : Fin 4) (a : Fin 512) (r x : ℕ), r = 256 * b + (n + c) → x = a → d (ix4 0 0 c a) = D r x)
    (hs : ∀ (a : Fin 128) (e : Fin 256), s (ix3 0 a e) = GlaSpec.state KS V D b h n a e) (a : Fin 128) (e : Fin 256) :
    ∀ (c : ℕ) (hc : c ≤ 4), stAt (decT h hh d) (k0_pay174 ks) (k0_pay175 v) (st0 s) c hc (ix2 a e) = GlaSpec.state KS V D b h (n + c) a e
  | 0, _ => (st0_at s a e).trans (hs a e)
  | c + 1, hc => by
    rw [stAt, stNext_at, stAt_read hh hks hv hd hs a e c (Nat.le_of_succ_le hc), decT_at h hh d a c hc,
      hd ⟨c, hc⟩ ⟨128 * h + a.val, by omega⟩ _ (128 * h + a.val) rfl rfl]
    refine congrArg (_ + ·) (Finset.sum_congr rfl fun i _ => ?_)
    show _ = KS (16384 * b + 64 * (n + c) + i.val) (128 * h + a.val) * V (16384 * b + 64 * (n + c) + i.val) (256 * h + e.val)
    rw [ks_at, v_at, hks _ a _ (show 16384 * b + 64 * (n + c) + i.val = 16384 * b + 64 * n + (64 * c + i.val) by omega),
      hv _ e _ (show 16384 * b + 64 * (n + c) + i.val = 16384 * b + 64 * n + (64 * c + i.val) by omega)]

/-- A stored state. -/
theorem stPiece_read (hh : h < 4)
    (hks : ∀ (i : Fin 256) (a : Fin 128) (r : ℕ), r = 16384 * b + 64 * n + i → ks (ix3 0 i a) = KS r (128 * h + a))
    (hv : ∀ (i : Fin 256) (e : Fin 256) (r : ℕ), r = 16384 * b + 64 * n + i → v (ix3 0 i e) = V r (256 * h + e))
    (hd : ∀ (c : Fin 4) (a : Fin 512) (r x : ℕ), r = 256 * b + (n + c) → x = a → d (ix4 0 0 c a) = D r x)
    (hs : ∀ (a : Fin 128) (e : Fin 256), s (ix3 0 a e) = GlaSpec.state KS V D b h n a e) (a : Fin 128) (e : Fin 256) :
    stPiece h hh ks v d s (ix3 0 a e) = GlaSpec.state KS V D b h (n + 4) a e :=
  (kept_at _ a e).trans (stAt_read hh hks hv hd hs a e 4 (Nat.le_refl 4))

/-- A chunk's causal products: of the group's 256 rows only the chunk's own 64 count. -/
theorem within_read (c : ℕ) (hc : c < 4)
    (hq : ∀ (i : Fin 256) (a : Fin 128) (r : ℕ), r = 16384 * b + 64 * n + i → q (ix3 0 i a) = Q r (128 * h + a))
    (hk : ∀ (i : Fin 256) (a : Fin 128) (r : ℕ), r = 16384 * b + 64 * n + i → k (ix3 0 i a) = K r (128 * h + a))
    (hv : ∀ (i : Fin 256) (e : Fin 256) (r : ℕ), r = 16384 * b + 64 * n + i → v (ix3 0 i e) = V r (256 * h + e))
    (i : Fin 64) (e : Fin 256) :
    k0_pay176 k0_pay4 q v k (ix2 ⟨64 * c + i.val, by omega⟩ e)
      = ∑ j : Fin 64, (if j.val ≤ i.val then GlaSpec.score Q K b h (n + c) i j else 0) * V (16384 * b + 64 * (n + c) + j) (256 * h + e) := by
  rw [within_at, GlaSpec.sum_chunk _ c hc]
  · refine Finset.sum_congr rfl fun j _ => ?_
    rw [hv _ e _ (show 16384 * b + 64 * (n + c) + j.val = 16384 * b + 64 * n + (64 * c + j.val) by omega)]
    refine congrArg (· * _) ?_
    have h1 : (64 * c + i.val) / 64 = (64 * c + j.val) / 64 := by omega
    by_cases h2 : j.val ≤ i.val
    · rw [if_pos h2, if_pos ((mask_iff _ _).2 ⟨h1, by show 64 * c + j.val ≤ 64 * c + i.val; omega⟩)]
      refine Finset.sum_congr rfl fun a _ => ?_
      rw [hq _ a _ (show 16384 * b + 64 * (n + c) + i.val = 16384 * b + 64 * n + (64 * c + i.val) by omega),
        hk _ a _ (show 16384 * b + 64 * (n + c) + j.val = 16384 * b + 64 * n + (64 * c + j.val) by omega)]
    · rw [if_neg h2, if_neg (fun hx => h2 (by have h3 : 64 * c + j.val ≤ 64 * c + i.val := ((mask_iff _ _).1 hx).2; omega))]
  · intro j hj
    rw [if_neg (fun hx => hj (by have h3 : (64 * c + i.val) / 64 = j.val / 64 := ((mask_iff _ _).1 hx).1; omega)), zero_mul]

/-- The stored rows of a chunk. -/
theorem outPiece_read (c : ℕ) (hh : h < 4) (hc : c < 4)
    (hq : ∀ (i : Fin 256) (a : Fin 128) (r : ℕ), r = 16384 * b + 64 * n + i → q (ix3 0 i a) = Q r (128 * h + a))
    (hk : ∀ (i : Fin 256) (a : Fin 128) (r : ℕ), r = 16384 * b + 64 * n + i → k (ix3 0 i a) = K r (128 * h + a))
    (hks : ∀ (i : Fin 256) (a : Fin 128) (r : ℕ), r = 16384 * b + 64 * n + i → ks (ix3 0 i a) = KS r (128 * h + a))
    (hv : ∀ (i : Fin 256) (e : Fin 256) (r : ℕ), r = 16384 * b + 64 * n + i → v (ix3 0 i e) = V r (256 * h + e))
    (hd : ∀ (c : Fin 4) (a : Fin 512) (r x : ℕ), r = 256 * b + (n + c) → x = a → d (ix4 0 0 c a) = D r x)
    (hs : ∀ (a : Fin 128) (e : Fin 256), s (ix3 0 a e) = GlaSpec.state KS V D b h n a e)
    (hw : ∀ e : Fin 256, na (ix2 0 e) = W e)
    (hg : ∀ (i : Fin 64) (e : Fin 256), g (ix3 0 i e) = G (16384 * b + 64 * (n + c) + i) (256 * h + e))
    (i : Fin 64) (e : Fin 256) :
    outPiece h c hh hc q k ks v d s na g (ix3 0 i e) = GlaSpec.out Q K KS V D G W b h (n + c) i e := by
  have hrow : ∀ e : Fin 256, rowsOf c hc (k0_pay173 q) (k0_pay176 k0_pay4 q v k)
      (stAt (decT h hh d) (k0_pay174 ks) (k0_pay175 v) (st0 s) c (Nat.le_of_lt hc)) (ix2 i e) = GlaSpec.row Q K KS V D b h (n + c) i e := by
    intro e
    rw [rowsOf_at, within_read c hc hq hk hv i e]
    refine congrArg (_ + ·) (Finset.sum_congr rfl fun a _ => ?_)
    rw [q_at, stAt_read hh hks hv hd hs a e c (Nat.le_of_lt hc),
      hq _ a _ (show 16384 * b + 64 * (n + c) + i.val = 16384 * b + 64 * n + (64 * c + i.val) by omega)]
  rw [outPiece, normed_at]
  simp only [hrow, hw, hg]
  rfl

end Cert.Proof.Mix

end
-- ==== Proof.MixPiece.lean ====
/-
  The pieces of one grid step, placed: what a step stores in the output's block and in the kept state is, index by index, the
  plain sums, when its input blocks hold the arrays' entries of the group that starts at chunk `n`.
-/
module

public import proofs.«01_k».proof.Proof.MixGroup

@[expose] public section

set_option maxRecDepth 16384

noncomputable section

namespace Cert.Proof.Mix

open Idealize.ShloMosaic Idealize.ShloMosaic.TcCoe Idealize.SL.Sem
open Cert.MixIdeal Cert.MixIdeal.Gen

/-- The input blocks of the grid step whose first chunk is `n` hold the entries of the arrays. -/
structure Block (x0 x1 x2 : Vec Ideal S2x256x512 .bf16) (x3 x4 : Vec Ideal S2x256x1024 .bf16) (x5 : Vec Ideal S2x1x4x512 .f32)
    (x13 : Vec Ideal S1x256 .f32) (Q K KS V D G : ℕ → ℕ → EReal) (W : ℕ → EReal) (n : ℕ) : Prop where
  q : ∀ (b : Fin 2) (i : Fin 256) (a : Fin 512) (r x : ℕ), r = 16384 * b + 64 * n + i → x = a → x0 (ix3 b i a) = Q r x
  k : ∀ (b : Fin 2) (i : Fin 256) (a : Fin 512) (r x : ℕ), r = 16384 * b + 64 * n + i → x = a → x1 (ix3 b i a) = K r x
  ks : ∀ (b : Fin 2) (i : Fin 256) (a : Fin 512) (r x : ℕ), r = 16384 * b + 64 * n + i → x = a → x2 (ix3 b i a) = KS r x
  v : ∀ (b : Fin 2) (i : Fin 256) (a : Fin 1024) (r x : ℕ), r = 16384 * b + 64 * n + i → x = a → x3 (ix3 b i a) = V r x
  g : ∀ (b : Fin 2) (i : Fin 256) (a : Fin 1024) (r x : ℕ), r = 16384 * b + 64 * n + i → x = a → x4 (ix3 b i a) = G r x
  d : ∀ (b : Fin 2) (i : Fin 4) (a : Fin 512) (r x : ℕ), r = 256 * b + (n + i) → x = a → x5 (ix4 b 0 i a) = D r x
  w : ∀ e : Fin 256, x13 (ix2 0 e) = W e

/-- What the step leaves in the output's block. -/
def outBlock (Q K KS V D G : ℕ → ℕ → EReal) (W : ℕ → EReal) (n : ℕ) : Vec Ideal S2x256x1024 .bf16 := fun y =>
  GlaSpec.out Q K KS V D G W (y 0).val ((y 2).val / 256) (n + (y 1).val / 64) ((y 1).val % 64) ((y 2).val % 256)

/-- The kept state before chunk `n`. -/
def stBlock (KS V D : ℕ → ℕ → EReal) (n : ℕ) : Vec Ideal S8x128x256 .f32 := fun y =>
  GlaSpec.state KS V D ((y 0).val / 4) ((y 0).val % 4) n (y 1).val (y 2).val

/-- A load of a rectangle of an array, read at an index. -/
theorem ld3 {m n l m' n' l' : ℕ} {e : EltTy} (X : Vec Ideal ⟨3, ![m, n, l]⟩ e) (o0 o1 o2 : ℕ)
    (inb : ∀ a, (![o0, o1, o2] : Fin 3 → ℕ) a + (![m', n', l'] : Fin 3 → ℕ) a ≤ (![m, n, l] : Fin 3 → ℕ) a) (p : Fin m') (i : Fin n') (a : Fin l')
    (p' : Fin m) (i' : Fin n) (a' : Fin l) (h0 : p'.val = o0 + p.val) (h1 : i'.val = o1 + i.val) (h2 : a'.val = o2 + a.val) :
    View.ld X (Rect.unit (s := ⟨3, ![m, n, l]⟩) ![o0, o1, o2] ![m', n', l'] inb) (ix3 p i a) = X (ix3 p' i' a') :=
  View.ld_unit_apply_of _ _ _ _ _ _ (by intro x; fin_cases x <;> simp [h0, h1, h2])

variable {x0 x1 x2 : Vec Ideal S2x256x512 .bf16} {x3 x4 : Vec Ideal S2x256x1024 .bf16} {x5 : Vec Ideal S2x1x4x512 .f32}
  {x13 : Vec Ideal S1x256 .f32} {Q K KS V D G : ℕ → ℕ → EReal} {W : ℕ → EReal} {n : ℕ}

/-- A load of head `h`'s keys of batch row `b`. -/
theorem ld_key {x : Vec Ideal S2x256x512 .bf16} {X : ℕ → ℕ → EReal}
    (hx : ∀ (b : Fin 2) (i : Fin 256) (a : Fin 512) (r x' : ℕ), r = 16384 * b + 64 * n + i → x' = a → x (ix3 b i a) = X r x')
    (b h : ℕ) (hb : b < 2) (hh : h < 4) (i : Fin 256) (a : Fin 128) (r : ℕ) (hr : r = 16384 * b + 64 * n + i) :
    View.ld x (keyRect b h hb hh) (ix3 0 i a) = X r (128 * h + a) :=
  (ld3 x _ _ _ _ 0 i a ⟨b, hb⟩ i ⟨128 * h + a.val, by omega⟩ (by simp) (by simp) (by simp)).trans (hx _ _ _ _ _ hr rfl)

/-- A load of head `h`'s values of batch row `b`. -/
theorem ld_val {x : Vec Ideal S2x256x1024 .bf16} {X : ℕ → ℕ → EReal}
    (hx : ∀ (b : Fin 2) (i : Fin 256) (a : Fin 1024) (r x' : ℕ), r = 16384 * b + 64 * n + i → x' = a → x (ix3 b i a) = X r x')
    (b h : ℕ) (hb : b < 2) (hh : h < 4) (i : Fin 256) (a : Fin 256) (r : ℕ) (hr : r = 16384 * b + 64 * n + i) :
    View.ld x (valRect b h hb hh) (ix3 0 i a) = X r (256 * h + a) :=
  (ld3 x _ _ _ _ 0 i a ⟨b, hb⟩ i ⟨256 * h + a.val, by omega⟩ (by simp) (by simp) (by simp)).trans (hx _ _ _ _ _ hr rfl)

/-- A load of batch row `b`'s decays. -/
theorem ld_dec (hx : ∀ (b : Fin 2) (i : Fin 4) (a : Fin 512) (r x' : ℕ), r = 256 * b + (n + i) → x' = a → x5 (ix4 b 0 i a) = D r x')
    (b : ℕ) (hb : b < 2) (i : Fin 4) (a : Fin 512) (r x : ℕ) (hr : r = 256 * b + (n + i)) (ha : x = a) :
    View.ld x5 (decRect b hb) (ix4 0 0 i a) = D r x :=
  (View.ld_unit_apply_of x5 _ _ _ _ (ix4 ⟨b, hb⟩ 0 i a) (by intro x; fin_cases x <;> simp)).trans (hx _ _ _ _ _ hr ha)

/-- A load of the norm's weights. -/
theorem ld_norm (e : Fin 256) : View.ld x13 normRect (ix2 0 e) = x13 (ix2 0 e) :=
  View.ld_unit_apply_of x13 _ _ _ _ (ix2 0 e) (by intro x; fin_cases x <;> simp)

/-- A load of head `h`'s state of batch row `b`. -/
theorem ld_state {s : Vec Ideal S8x128x256 .f32} (hs : s = stBlock KS V D n) (b h : ℕ) (hb : b < 2) (hh : h < 4) (a : Fin 128) (e : Fin 256) :
    View.ld s (stateRect b h hb hh) (ix3 0 a e) = GlaSpec.state KS V D b h n a e := by
  refine (ld3 s _ _ _ _ 0 a e ⟨4 * b + h, by omega⟩ a e (by simp) (by simp) (by simp)).trans ?_
  subst hs
  show GlaSpec.state KS V D ((4 * b + h) / 4) ((4 * b + h) % 4) n a.val e.val = _
  rw [show (4 * b + h) / 4 = b by omega, show (4 * b + h) % 4 = h by omega]

/-- A load of a chunk's gates. -/
theorem ld_gate (hx : ∀ (b : Fin 2) (i : Fin 256) (a : Fin 1024) (r x' : ℕ), r = 16384 * b + 64 * n + i → x' = a → x4 (ix3 b i a) = G r x')
    (b h c : ℕ) (hb : b < 2) (hh : h < 4) (hc : c < 4) (i : Fin 64) (e : Fin 256) :
    View.ld x4 (outRect b h c hb hh hc) (ix3 0 i e) = G (16384 * b + 64 * (n + c) + i) (256 * h + e) :=
  (ld3 x4 _ _ _ _ 0 i e ⟨b, hb⟩ ⟨64 * c + i.val, by omega⟩ ⟨256 * h + e.val, by omega⟩ (by simp) (by simp) (by simp)).trans
    (hx _ _ _ _ _ (by show 16384 * b + 64 * (n + c) + i.val = 16384 * b + 64 * n + (64 * c + i.val); omega) rfl)

/-- A stored chunk is the block's rows at its rectangle. -/
theorem out_piece (B : Block x0 x1 x2 x3 x4 x5 x13 Q K KS V D G W n) (b h c : ℕ) (hb : b < 2) (hh : h < 4) (hc : c < 4)
    (s : Vec Ideal S1x128x256 .f32) (hs : ∀ (a : Fin 128) (e : Fin 256), s (ix3 0 a e) = GlaSpec.state KS V D b h n a e)
    (x : S1x64x256.Idx) :
    outPiece h c hh hc (View.ld x0 (keyRect b h hb hh)) (View.ld x1 (keyRect b h hb hh)) (View.ld x2 (keyRect b h hb hh))
      (View.ld x3 (valRect b h hb hh)) (View.ld x5 (decRect b hb)) s (View.ld x13 normRect) (View.ld x4 (outRect b h c hb hh hc)) x
      = outBlock Q K KS V D G W n ((outRect b h c hb hh hc).emb x) := by
  obtain ⟨o, i, e, rfl⟩ : ∃ (o : Fin 1) (i : Fin 64) (e : Fin 256), x = ix3 o i e := ⟨_, _, _, eq_ix3 x⟩
  obtain rfl : o = 0 := Subsingleton.elim _ _
  rw [outPiece_read c hh hc (ld_key B.q b h hb hh) (ld_key B.k b h hb hh) (ld_key B.ks b h hb hh) (ld_val B.v b h hb hh)
    (ld_dec B.d b hb) hs (fun e => (ld_norm e).trans (B.w e)) (ld_gate B.g b h c hb hh hc) i e]
  have h0 : (((outRect b h c hb hh hc).emb (ix3 0 i e)) 0).val = b := (Rect.idx_unit_val _ _ _ _ 0).trans (by simp)
  have h1 : (((outRect b h c hb hh hc).emb (ix3 0 i e)) 1).val = 64 * c + i.val := (Rect.idx_unit_val _ _ _ _ 1).trans (by simp)
  have h2 : (((outRect b h c hb hh hc).emb (ix3 0 i e)) 2).val = 256 * h + e.val := (Rect.idx_unit_val _ _ _ _ 2).trans (by simp)
  rw [outBlock, h0, h1, h2, show (256 * h + e.val) / 256 = h by omega, show (256 * h + e.val) % 256 = e.val by omega,
    show (64 * c + i.val) / 64 = c by omega, show (64 * c + i.val) % 64 = i.val by omega]

/-- A stored state is the kept state after the group at its rectangle. -/
theorem st_piece (B : Block x0 x1 x2 x3 x4 x5 x13 Q K KS V D G W n) (b h : ℕ) (hb : b < 2) (hh : h < 4)
    (s : Vec Ideal S1x128x256 .f32) (hs : ∀ (a : Fin 128) (e : Fin 256), s (ix3 0 a e) = GlaSpec.state KS V D b h n a e)
    (x : S1x128x256.Idx) :
    stPiece h hh (View.ld x2 (keyRect b h hb hh)) (View.ld x3 (valRect b h hb hh)) (View.ld x5 (decRect b hb)) s x
      = stBlock KS V D (n + 4) ((stateRect b h hb hh).emb x) := by
  obtain ⟨o, a, e, rfl⟩ : ∃ (o : Fin 1) (a : Fin 128) (e : Fin 256), x = ix3 o a e := ⟨_, _, _, eq_ix3 x⟩
  obtain rfl : o = 0 := Subsingleton.elim _ _
  rw [stPiece_read hh (ld_key B.ks b h hb hh) (ld_val B.v b h hb hh) (ld_dec B.d b hb) hs a e]
  have h0 : (((stateRect b h hb hh).emb (ix3 0 a e)) 0).val = 4 * b + h := (Rect.idx_unit_val _ _ _ _ 0).trans (by simp)
  have h1 : (((stateRect b h hb hh).emb (ix3 0 a e)) 1).val = a.val := (Rect.idx_unit_val _ _ _ _ 1).trans (by simp)
  have h2 : (((stateRect b h hb hh).emb (ix3 0 a e)) 2).val = e.val := (Rect.idx_unit_val _ _ _ _ 2).trans (by simp)
  rw [stBlock, h0, h1, h2, show (4 * b + h) / 4 = b by omega, show (4 * b + h) % 4 = h by omega]

/-- The zero state is the state before the first chunk. -/
theorem zero_block : (k0_pay2 (F := Ideal)) = stBlock KS V D 0 := by
  funext y
  show _ = (0 : EReal)
  rw [eq_ix3 y]
  pointwise [k0_pay2]

end Cert.Proof.Mix

end
-- ==== Proof.MixStepA.lean ====
/-
  The first grid step: from the arrays' entries of its chunks and the state kept before them, the block of the output and the state
  that it leaves are the plain sums.
-/
module

public import proofs.«01_k».proof.Proof.MixRunA
public import proofs.«01_k».proof.Proof.MixPiece
public import Idealize.ShloMosaic.Lib.Pipeline.CanonAppend
public import Idealize.ShloMosaic.Lib.Pipeline.ReadBack

@[expose] public section

set_option maxRecDepth 16384

noncomputable section

namespace Cert.Proof.Mix

open Idealize.ShloMosaic Idealize.ShloMosaic.TcCoe Idealize.SL.Sem
open Cert.MixIdeal Cert.MixIdeal.Gen

/-- A state loaded just after the zeros were stored is zero. -/
theorem fill (v : View sig .tc .vmem S8x128x256 .f32) (b h : ℕ) (hb : b < 2) (hh : h < 4) :
    v.readCov [⟨wholeRect, k0_pay2 (F := Ideal)⟩] (stateRect b h hb hh).toLoadRect
      = View.ld (Val := Elt Ideal) (e' := .f32) (k0_pay2 (F := Ideal)) (stateRect b h hb hh) :=
  View.readCov_fill _ _ _ _ _ (by intro a; fin_cases a <;> rfl)

/-- The stored pieces of the state: the eight heads' states, over the zeros stored before. -/
theorem splitA (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : cond0_0 i)
    (x0 : Vec Ideal S2x256x512 .bf16) (x1 : Vec Ideal S2x256x512 .bf16) (x2 : Vec Ideal S2x256x512 .bf16) (x3 : Vec Ideal S2x256x1024 .bf16) (x4 : Vec Ideal S2x256x1024 .bf16) (x5 : Vec Ideal S2x1x4x512 .f32) (x6 : Vec Ideal S2x256x1024 .bf16) (x7 : Vec Ideal S2x256x1024 .bf16) (x8 : Vec Ideal S2x256x1024 .bf16) (x9 : Vec Ideal S2x256x1024 .bf16) (x10 : Vec Ideal S2x256x128 .f32) (x11 : Vec Ideal S128x256 .f32) (x12 : Vec Ideal S128x256 .f32) (x13 : Vec Ideal S1x256 .f32) (x14 : Vec Ideal S1x128 .f32) :
    (kernelRun0_A (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1 = (kernelRun0_A (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1.take 8 ++ [⟨wholeRect, k0_pay2 (F := Ideal)⟩] := rfl

/-- The eight heads' states cover the kept state. -/
theorem tileA (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : cond0_0 i)
    (x0 : Vec Ideal S2x256x512 .bf16) (x1 : Vec Ideal S2x256x512 .bf16) (x2 : Vec Ideal S2x256x512 .bf16) (x3 : Vec Ideal S2x256x1024 .bf16) (x4 : Vec Ideal S2x256x1024 .bf16) (x5 : Vec Ideal S2x1x4x512 .f32) (x6 : Vec Ideal S2x256x1024 .bf16) (x7 : Vec Ideal S2x256x1024 .bf16) (x8 : Vec Ideal S2x256x1024 .bf16) (x9 : Vec Ideal S2x256x1024 .bf16) (x10 : Vec Ideal S2x256x128 .f32) (x11 : Vec Ideal S128x256 .f32) (x12 : Vec Ideal S128x256 .f32) (x13 : Vec Ideal S1x256 .f32) (x14 : Vec Ideal S1x128 .f32) (y : S8x128x256.Idx) :
    ∃ p ∈ (kernelRun0_A (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1.take 8, y ∈ p.1.set :=
  View.cover_of_tiledL ((kernelRun0_A (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1.take 8) S1x128x256.size (by sl_kernel_rfl) y

/-- The output's block after a first grid step. -/
theorem blockA (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : cond0_0 i)
    (x0 : Vec Ideal S2x256x512 .bf16) (x1 : Vec Ideal S2x256x512 .bf16) (x2 : Vec Ideal S2x256x512 .bf16) (x3 : Vec Ideal S2x256x1024 .bf16) (x4 : Vec Ideal S2x256x1024 .bf16) (x5 : Vec Ideal S2x1x4x512 .f32) (x6 : Vec Ideal S2x256x1024 .bf16) (x7 : Vec Ideal S2x256x1024 .bf16) (x8 : Vec Ideal S2x256x1024 .bf16) (x9 : Vec Ideal S2x256x1024 .bf16) (x10 : Vec Ideal S2x256x128 .f32) (x11 : Vec Ideal S128x256 .f32) (x12 : Vec Ideal S128x256 .f32) (x13 : Vec Ideal S1x256 .f32) (x14 : Vec Ideal S1x128 .f32) {Q K KS V D G : ℕ → ℕ → EReal} {W : ℕ → EReal} (B : Block x0 x1 x2 x3 x4 x5 x13 Q K KS V D G W 0) :
    out0_A_15 (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = outBlock Q K KS V D G W 0 := by
  unfold out0_A_15
  rw [View.read_writes_eq_canon _ _ _ (cover0_A_15 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  funext y
  refine View.canon_apply_of_pieces (outBlock Q K KS V D G W 0) _ (fun p hp x => ?_) y (cover0_A_15 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 y)
  obtain ⟨b, h, c, hb, hh, hc, rfl⟩ := outsA dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 p hp
  have key := out_piece B b h c hb hh hc (View.ld (Val := Elt Ideal) (e' := .f32) (k0_pay2 (F := Ideal)) (stateRect b h hb hh)) (fun a e => ld_state zero_block b h hb hh a e) x
  simpa only [View.readAt_eq_ld, harg1.read_unread, harg2.read_unread, harg3.read_unread, harg4.read_unread, harg5.read_unread, harg6.read_unread, harg14.read_unread, fill] using key

/-- The kept state after a first grid step. -/
theorem keptA (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : cond0_0 i)
    (x0 : Vec Ideal S2x256x512 .bf16) (x1 : Vec Ideal S2x256x512 .bf16) (x2 : Vec Ideal S2x256x512 .bf16) (x3 : Vec Ideal S2x256x1024 .bf16) (x4 : Vec Ideal S2x256x1024 .bf16) (x5 : Vec Ideal S2x1x4x512 .f32) (x6 : Vec Ideal S2x256x1024 .bf16) (x7 : Vec Ideal S2x256x1024 .bf16) (x8 : Vec Ideal S2x256x1024 .bf16) (x9 : Vec Ideal S2x256x1024 .bf16) (x10 : Vec Ideal S2x256x128 .f32) (x11 : Vec Ideal S128x256 .f32) (x12 : Vec Ideal S128x256 .f32) (x13 : Vec Ideal S1x256 .f32) (x14 : Vec Ideal S1x128 .f32) {Q K KS V D G : ℕ → ℕ → EReal} {W : ℕ → EReal} (B : Block x0 x1 x2 x3 x4 x5 x13 Q K KS V D G W 0) :
    sout0_A_0 (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = stBlock KS V D 4 := by
  unfold sout0_A_0
  rw [View.read_writes_eq_canon _ _ _ (scover0_A_0 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  funext y
  rw [splitA dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14]
  refine View.canon_append_of_pieces (stBlock KS V D 4) _ _ (fun p hp x => ?_) y (tileA dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 y)
  obtain ⟨b, h, hb, hh, rfl⟩ := statesA dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 p hp
  have key := st_piece B b h hb hh (View.ld (Val := Elt Ideal) (e' := .f32) (k0_pay2 (F := Ideal)) (stateRect b h hb hh)) (fun a e => ld_state zero_block b h hb hh a e) x
  simpa only [View.readAt_eq_ld, harg3.read_unread, harg4.read_unread, harg6.read_unread, fill] using key

end Cert.Proof.Mix

end
-- ==== Proof.MixRunB.lean ====
module
/-
What the mixing call stores in a later grid step: every stored piece of the attention's output is `outPiece` of the
loaded slabs at some batch row, head and chunk, and every stored piece of the state is `stPiece`.
-/
public import proofs.«01_k».proof.Proof.MixStage

@[expose] public section

set_option maxRecDepth 16384

noncomputable section

namespace Cert.Proof.Mix

open Idealize.ShloMosaic Idealize.ShloMosaic.TcCoe Idealize.SL.Sem
open Cert.MixIdeal Cert.MixIdeal.Gen

variable {F : FTy → Type} [FloatOps F]

/-- The pieces of the attention's output. -/
theorem outsB (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : ¬cond0_0 i)
    (x0 : Vec F S2x256x512 .bf16) (x1 : Vec F S2x256x512 .bf16) (x2 : Vec F S2x256x512 .bf16) (x3 : Vec F S2x256x1024 .bf16) (x4 : Vec F S2x256x1024 .bf16) (x5 : Vec F S2x1x4x512 .f32) (x6 : Vec F S2x256x1024 .bf16) (x7 : Vec F S2x256x1024 .bf16) (x8 : Vec F S2x256x1024 .bf16) (x9 : Vec F S2x256x1024 .bf16) (x10 : Vec F S2x256x128 .f32) (x11 : Vec F S128x256 .f32) (x12 : Vec F S128x256 .f32) (x13 : Vec F S1x256 .f32) (x14 : Vec F S1x128 .f32) (xs0 : Vec F S8x128x256 .f32) (xs1 : Vec F S16x128x128 .f32) :
    ∀ p ∈ (kernelRun0_B dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1).1,
      ∃ (b h c : ℕ) (hb : b < 2) (hh : h < 4) (hc : c < 4), p = ⟨outRect b h c hb hh hc,
        outPiece h c hh hc (arg1.view.readAt (Elt F) (keyRect b h hb hh).toLoadRect (harg1.unread x0))
          (arg2.view.readAt (Elt F) (keyRect b h hb hh).toLoadRect (harg2.unread x1))
          (arg3.view.readAt (Elt F) (keyRect b h hb hh).toLoadRect (harg3.unread x2))
          (arg4.view.readAt (Elt F) (valRect b h hb hh).toLoadRect (harg4.unread x3))
          (arg6.view.readAt (Elt F) (decRect b hb).toLoadRect (harg6.unread x5))
          (arg18.view.readAt (Elt F) (stateRect b h hb hh).toLoadRect (harg18.unread xs0))
          (arg14.view.readAt (Elt F) (normRect).toLoadRect (harg14.unread x13))
          (arg5.view.readAt (Elt F) (outRect b h c hb hh hc).toLoadRect (harg5.unread x4))⟩ := by
  refine List.forall_mem_cons.2 ⟨⟨1, 3, 3, (by decide), (by decide), (by decide), rfl⟩, ?_⟩
  refine List.forall_mem_cons.2 ⟨⟨1, 2, 3, (by decide), (by decide), (by decide), rfl⟩, ?_⟩
  refine List.forall_mem_cons.2 ⟨⟨1, 1, 3, (by decide), (by decide), (by decide), rfl⟩, ?_⟩
  refine List.forall_mem_cons.2 ⟨⟨1, 0, 3, (by decide), (by decide), (by decide), rfl⟩, ?_⟩
  refine List.forall_mem_cons.2 ⟨⟨1, 3, 2, (by decide), (by decide), (by decide), rfl⟩, ?_⟩
  refine List.forall_mem_cons.2 ⟨⟨1, 2, 2, (by decide), (by decide), (by decide), rfl⟩, ?_⟩
  refine List.forall_mem_cons.2 ⟨⟨1, 1, 2, (by decide), (by decide), (by decide), rfl⟩, ?_⟩
  refine List.forall_mem_cons.2 ⟨⟨1, 0, 2, (by decide), (by decide), (by decide), rfl⟩, ?_⟩
  refine List.forall_mem_cons.2 ⟨⟨1, 3, 1, (by decide), (by decide), (by decide), rfl⟩, ?_⟩
  refine List.forall_mem_cons.2 ⟨⟨1, 2, 1, (by decide), (by decide), (by decide), rfl⟩, ?_⟩
  refine List.forall_mem_cons.2 ⟨⟨1, 1, 1, (by decide), (by decide), (by decide), rfl⟩, ?_⟩
  refine List.forall_mem_cons.2 ⟨⟨1, 0, 1, (by decide), (by decide), (by decide), rfl⟩, ?_⟩
  refine List.forall_mem_cons.2 ⟨⟨1, 3, 0, (by decide), (by decide), (by decide), rfl⟩, ?_⟩
  refine List.forall_mem_cons.2 ⟨⟨1, 2, 0, (by decide), (by decide), (by decide), rfl⟩, ?_⟩
  refine List.forall_mem_cons.2 ⟨⟨1, 1, 0, (by decide), (by decide), (by decide), rfl⟩, ?_⟩
  refine List.forall_mem_cons.2 ⟨⟨1, 0, 0, (by decide), (by decide), (by decide), rfl⟩, ?_⟩
  refine List.forall_mem_cons.2 ⟨⟨0, 3, 3, (by decide), (by decide), (by decide), rfl⟩, ?_⟩
  refine List.forall_mem_cons.2 ⟨⟨0, 2, 3, (by decide), (by decide), (by decide), rfl⟩, ?_⟩
  refine List.forall_mem_cons.2 ⟨⟨0, 1, 3, (by decide), (by decide), (by decide), rfl⟩, ?_⟩
  refine List.forall_mem_cons.2 ⟨⟨0, 0, 3, (by decide), (by decide), (by decide), rfl⟩, ?_⟩
  refine List.forall_mem_cons.2 ⟨⟨0, 3, 2, (by decide), (by decide), (by decide), rfl⟩, ?_⟩
  refine List.forall_mem_cons.2 ⟨⟨0, 2, 2, (by decide), (by decide), (by decide), rfl⟩, ?_⟩
  refine List.forall_mem_cons.2 ⟨⟨0, 1, 2, (by decide), (by decide), (by decide), rfl⟩, ?_⟩
  refine List.forall_mem_cons.2 ⟨⟨0, 0, 2, (by decide), (by decide), (by decide), rfl⟩, ?_⟩
  refine List.forall_mem_cons.2 ⟨⟨0, 3, 1, (by decide), (by decide), (by decide), rfl⟩, ?_⟩
  refine List.forall_mem_cons.2 ⟨⟨0, 2, 1, (by decide), (by decide), (by decide), rfl⟩, ?_⟩
  refine List.forall_mem_cons.2 ⟨⟨0, 1, 1, (by decide), (by decide), (by decide), rfl⟩, ?_⟩
  refine List.forall_mem_cons.2 ⟨⟨0, 0, 1, (by decide), (by decide), (by decide), rfl⟩, ?_⟩
  refine List.forall_mem_cons.2 ⟨⟨0, 3, 0, (by decide), (by decide), (by decide), rfl⟩, ?_⟩
  refine List.forall_mem_cons.2 ⟨⟨0, 2, 0, (by decide), (by decide), (by decide), rfl⟩, ?_⟩
  refine List.forall_mem_cons.2 ⟨⟨0, 1, 0, (by decide), (by decide), (by decide), rfl⟩, ?_⟩
  refine List.forall_mem_cons.2 ⟨⟨0, 0, 0, (by decide), (by decide), (by decide), rfl⟩, ?_⟩
  exact List.forall_mem_nil _

/-- The pieces of the state. -/
theorem statesB (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : ¬cond0_0 i)
    (x0 : Vec F S2x256x512 .bf16) (x1 : Vec F S2x256x512 .bf16) (x2 : Vec F S2x256x512 .bf16) (x3 : Vec F S2x256x1024 .bf16) (x4 : Vec F S2x256x1024 .bf16) (x5 : Vec F S2x1x4x512 .f32) (x6 : Vec F S2x256x1024 .bf16) (x7 : Vec F S2x256x1024 .bf16) (x8 : Vec F S2x256x1024 .bf16) (x9 : Vec F S2x256x1024 .bf16) (x10 : Vec F S2x256x128 .f32) (x11 : Vec F S128x256 .f32) (x12 : Vec F S128x256 .f32) (x13 : Vec F S1x256 .f32) (x14 : Vec F S1x128 .f32) (xs0 : Vec F S8x128x256 .f32) (xs1 : Vec F S16x128x128 .f32) :
    ∀ p ∈ (kernelRun0_B dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1).2.2.1,
      ∃ (b h : ℕ) (hb : b < 2) (hh : h < 4), p = ⟨stateRect b h hb hh,
        stPiece h hh (arg3.view.readAt (Elt F) (keyRect b h hb hh).toLoadRect (harg3.unread x2))
          (arg4.view.readAt (Elt F) (valRect b h hb hh).toLoadRect (harg4.unread x3))
          (arg6.view.readAt (Elt F) (decRect b hb).toLoadRect (harg6.unread x5))
          (arg18.view.readAt (Elt F) (stateRect b h hb hh).toLoadRect (harg18.unread xs0))⟩ := by
  refine List.forall_mem_cons.2 ⟨⟨1, 3, (by decide), (by decide), rfl⟩, ?_⟩
  refine List.forall_mem_cons.2 ⟨⟨1, 2, (by decide), (by decide), rfl⟩, ?_⟩
  refine List.forall_mem_cons.2 ⟨⟨1, 1, (by decide), (by decide), rfl⟩, ?_⟩
  refine List.forall_mem_cons.2 ⟨⟨1, 0, (by decide), (by decide), rfl⟩, ?_⟩
  refine List.forall_mem_cons.2 ⟨⟨0, 3, (by decide), (by decide), rfl⟩, ?_⟩
  refine List.forall_mem_cons.2 ⟨⟨0, 2, (by decide), (by decide), rfl⟩, ?_⟩
  refine List.forall_mem_cons.2 ⟨⟨0, 1, (by decide), (by decide), rfl⟩, ?_⟩
  refine List.forall_mem_cons.2 ⟨⟨0, 0, (by decide), (by decide), rfl⟩, ?_⟩
  exact List.forall_mem_nil _

end Cert.Proof.Mix

end
-- ==== Proof.MixStepB.lean ====
/-
  The later grid step: from the arrays' entries of its chunks and the state kept before them, the block of the output and the state
  that it leaves are the plain sums.
-/
module

public import proofs.«01_k».proof.Proof.MixRunB
public import proofs.«01_k».proof.Proof.MixPiece

@[expose] public section

set_option maxRecDepth 16384

noncomputable section

namespace Cert.Proof.Mix

open Idealize.ShloMosaic Idealize.ShloMosaic.TcCoe Idealize.SL.Sem
open Cert.MixIdeal Cert.MixIdeal.Gen

/-- The output's block after a later grid step. -/
theorem blockB (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : ¬cond0_0 i)
    (x0 : Vec Ideal S2x256x512 .bf16) (x1 : Vec Ideal S2x256x512 .bf16) (x2 : Vec Ideal S2x256x512 .bf16) (x3 : Vec Ideal S2x256x1024 .bf16) (x4 : Vec Ideal S2x256x1024 .bf16) (x5 : Vec Ideal S2x1x4x512 .f32) (x6 : Vec Ideal S2x256x1024 .bf16) (x7 : Vec Ideal S2x256x1024 .bf16) (x8 : Vec Ideal S2x256x1024 .bf16) (x9 : Vec Ideal S2x256x1024 .bf16) (x10 : Vec Ideal S2x256x128 .f32) (x11 : Vec Ideal S128x256 .f32) (x12 : Vec Ideal S128x256 .f32) (x13 : Vec Ideal S1x256 .f32) (x14 : Vec Ideal S1x128 .f32) (xs0 : Vec Ideal S8x128x256 .f32) (xs1 : Vec Ideal S16x128x128 .f32) {Q K KS V D G : ℕ → ℕ → EReal} {W : ℕ → EReal} {n : ℕ} (B : Block x0 x1 x2 x3 x4 x5 x13 Q K KS V D G W n) (hs : xs0 = stBlock KS V D n) :
    out0_B_15 (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 = outBlock Q K KS V D G W n := by
  unfold out0_B_15
  rw [View.read_writes_eq_canon _ _ _ (cover0_B_15 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1)]
  funext y
  refine View.canon_apply_of_pieces (outBlock Q K KS V D G W n) _ (fun p hp x => ?_) y (cover0_B_15 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 y)
  obtain ⟨b, h, c, hb, hh, hc, rfl⟩ := outsB dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 p hp
  have key := out_piece B b h c hb hh hc (View.ld xs0 (stateRect b h hb hh)) (fun a e => ld_state hs b h hb hh a e) x
  simpa only [View.readAt_eq_ld, harg1.read_unread, harg2.read_unread, harg3.read_unread, harg4.read_unread, harg5.read_unread, harg6.read_unread, harg14.read_unread, harg18.read_unread] using key

/-- The kept state after a later grid step. -/
theorem keptB (dev : Dev nD) (i : grid0.Coords) (arg1 : Memref sig .tc .vmem S2x256x512 .bf16) (harg1 : arg1.IsWhole) (arg2 : Memref sig .tc .vmem S2x256x512 .bf16) (harg2 : arg2.IsWhole) (arg3 : Memref sig .tc .vmem S2x256x512 .bf16) (harg3 : arg3.IsWhole) (arg4 : Memref sig .tc .vmem S2x256x1024 .bf16) (harg4 : arg4.IsWhole) (arg5 : Memref sig .tc .vmem S2x256x1024 .bf16) (harg5 : arg5.IsWhole) (arg6 : Memref sig .tc .vmem S2x1x4x512 .f32) (harg6 : arg6.IsWhole) (arg7 : Memref sig .tc .vmem S2x256x1024 .bf16) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x128 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S2x256x1024 .bf16) (harg16 : arg16.IsWhole) (arg17 : Memref sig .tc .vmem S2x256x1024 .bf16) (harg17 : arg17.IsWhole) (arg18 : Memref sig .tc .vmem S8x128x256 .f32) (harg18 : arg18.IsWhole) (arg19 : Memref sig .tc .vmem S16x128x128 .f32) (harg19 : arg19.IsWhole) (hc0 : ¬cond0_0 i)
    (x0 : Vec Ideal S2x256x512 .bf16) (x1 : Vec Ideal S2x256x512 .bf16) (x2 : Vec Ideal S2x256x512 .bf16) (x3 : Vec Ideal S2x256x1024 .bf16) (x4 : Vec Ideal S2x256x1024 .bf16) (x5 : Vec Ideal S2x1x4x512 .f32) (x6 : Vec Ideal S2x256x1024 .bf16) (x7 : Vec Ideal S2x256x1024 .bf16) (x8 : Vec Ideal S2x256x1024 .bf16) (x9 : Vec Ideal S2x256x1024 .bf16) (x10 : Vec Ideal S2x256x128 .f32) (x11 : Vec Ideal S128x256 .f32) (x12 : Vec Ideal S128x256 .f32) (x13 : Vec Ideal S1x256 .f32) (x14 : Vec Ideal S1x128 .f32) (xs0 : Vec Ideal S8x128x256 .f32) (xs1 : Vec Ideal S16x128x128 .f32) {Q K KS V D G : ℕ → ℕ → EReal} {W : ℕ → EReal} {n : ℕ} (B : Block x0 x1 x2 x3 x4 x5 x13 Q K KS V D G W n) (hs : xs0 = stBlock KS V D n) :
    sout0_B_0 (F := Ideal) dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 = stBlock KS V D (n + 4) := by
  unfold sout0_B_0
  rw [View.read_writes_eq_canon _ _ _ (scover0_B_0 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1)]
  funext y
  refine View.canon_apply_of_pieces (stBlock KS V D (n + 4)) _ (fun p hp x => ?_) y (scover0_B_0 dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 y)
  obtain ⟨b, h, hb, hh, rfl⟩ := statesB dev i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 p hp
  have key := st_piece B b h hb hh (View.ld xs0 (stateRect b h hb hh)) (fun a e => ld_state hs b h hb hh a e) x
  simpa only [View.readAt_eq_ld, harg3.read_unread, harg4.read_unread, harg6.read_unread, harg18.read_unread] using key

end Cert.Proof.Mix

end
-- ==== Proof.MixValue.lean ====
/-
  The mixing call over the whole grid: what each step's input blocks hold, and so the kept state and the output's block after
  every step.
-/
module

public import proofs.«01_k».proof.Proof.MixStepA
public import proofs.«01_k».proof.Proof.MixStepB

@[expose] public section

set_option maxRecDepth 16384

noncomputable section

namespace Cert.Proof.Mix

open Idealize.ShloMosaic Idealize.ShloMosaic.TcCoe Idealize.SL.Sem Idealize.ShloMosaic.StableHlo
open Cert.MixIdeal Cert.MixIdeal.Gen
open Cert.Proof.GlaSpec (entry entry_of)

variable (m : (ℓ : Loc nD τ sig) → Buf (Elt Ideal) ℓ)

theorem idx : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0, 0] ∧ win0_13.index t = ![0, 0]
    ∧ win0_15.index t = ![0, t.val, 0] := by
  decide +kernel

/-- The arguments the attention reads. -/
abbrev argQ (c : Dev nD) : FVec Ideal S32768x512 .bf16 := m ((c.tc : Thread nD τ).loc main_arg0)
abbrev argK (c : Dev nD) : FVec Ideal S32768x512 .bf16 := m ((c.tc : Thread nD τ).loc main_arg1)
abbrev argKS (c : Dev nD) : FVec Ideal S32768x512 .bf16 := m ((c.tc : Thread nD τ).loc main_arg2)
abbrev argV (c : Dev nD) : FVec Ideal S32768x1024 .bf16 := m ((c.tc : Thread nD τ).loc main_arg3)
abbrev argG (c : Dev nD) : FVec Ideal S32768x1024 .bf16 := m ((c.tc : Thread nD τ).loc main_arg4)
abbrev argD (c : Dev nD) : FVec Ideal S512x512 .f32 := m ((c.tc : Thread nD τ).loc main_arg5)
abbrev argW (c : Dev nD) : FVec Ideal S1x256 .f32 := m ((c.tc : Thread nD τ).loc main_arg12)

/-! Each block's entries, by the arrays' rows and columns. -/

theorem blk_q (c : Dev nD) (t : Fin cfg0.N) (b : Fin 2) (i : Fin 256) (a : Fin 512) (r : Fin 32768) (hr : r.val = 16384 * b.val + 256 * t.val + i.val) :
    iblk m c 0 t (ix3 b i a) = argQ m c (ix2 r a) := by
  blk_point [iblk, V, idx t, hr]

theorem blk_k (c : Dev nD) (t : Fin cfg0.N) (b : Fin 2) (i : Fin 256) (a : Fin 512) (r : Fin 32768) (hr : r.val = 16384 * b.val + 256 * t.val + i.val) :
    iblk m c 1 t (ix3 b i a) = argK m c (ix2 r a) := by
  blk_point [iblk, V, idx t, hr]

theorem blk_ks (c : Dev nD) (t : Fin cfg0.N) (b : Fin 2) (i : Fin 256) (a : Fin 512) (r : Fin 32768) (hr : r.val = 16384 * b.val + 256 * t.val + i.val) :
    iblk m c 2 t (ix3 b i a) = argKS m c (ix2 r a) := by
  blk_point [iblk, V, idx t, hr]

theorem blk_v (c : Dev nD) (t : Fin cfg0.N) (b : Fin 2) (i : Fin 256) (a : Fin 1024) (r : Fin 32768) (hr : r.val = 16384 * b.val + 256 * t.val + i.val) :
    iblk m c 3 t (ix3 b i a) = argV m c (ix2 r a) := by
  blk_point [iblk, V, idx t, hr]

theorem blk_g (c : Dev nD) (t : Fin cfg0.N) (b : Fin 2) (i : Fin 256) (a : Fin 1024) (r : Fin 32768) (hr : r.val = 16384 * b.val + 256 * t.val + i.val) :
    iblk m c 4 t (ix3 b i a) = argG m c (ix2 r a) := by
  blk_point [iblk, V, idx t, hr]

theorem blk_d (c : Dev nD) (t : Fin cfg0.N) (b : Fin 2) (i : Fin 4) (a : Fin 512) (r : Fin 512) (hr : r.val = 256 * b.val + 4 * t.val + i.val) :
    iblk m c 5 t (ix4 b 0 i a) = argD m c (ix2 r a) := by
  blk_point [iblk, V, idx t, hr]

theorem blk_w (c : Dev nD) (t : Fin cfg0.N) (e : Fin 256) : iblk m c 13 t (ix2 0 e) = argW m c (ix2 0 e) := by
  blk_point [iblk, V, idx t]

/-- Step `t` handles the group of chunks that starts at chunk `4 t`. -/
theorem block (c : Dev nD) (t : Fin cfg0.N) (n : ℕ) (hn : n = 4 * t.val) : Block (iblk m c 0 t) (iblk m c 1 t) (iblk m c 2 t) (iblk m c 3 t) (iblk m c 4 t) (iblk m c 5 t) (iblk m c 13 t)
    (entry (argQ m c)) (entry (argK m c)) (entry (argKS m c)) (entry (argV m c)) (entry (argD m c)) (entry (argG m c)) (entry (argW m c) 0) n := by
  subst hn
  have ht : t.val < 64 := t.isLt
  have row (b : Fin 2) (i : Fin 256) (r : ℕ) (hr : r = 16384 * b.val + 64 * (4 * t.val) + i.val) :
      ∃ r' : Fin 32768, r = r'.val ∧ r'.val = 16384 * b.val + 256 * t.val + i.val := ⟨⟨r, by omega⟩, rfl, by show r = _; omega⟩
  constructor
  · intro b i a r x hr hx
    obtain ⟨r', rfl, h⟩ := row b i r hr
    exact (blk_q m c t b i a r' h).trans (entry_of _ _ _ r' a rfl hx).symm
  · intro b i a r x hr hx
    obtain ⟨r', rfl, h⟩ := row b i r hr
    exact (blk_k m c t b i a r' h).trans (entry_of _ _ _ r' a rfl hx).symm
  · intro b i a r x hr hx
    obtain ⟨r', rfl, h⟩ := row b i r hr
    exact (blk_ks m c t b i a r' h).trans (entry_of _ _ _ r' a rfl hx).symm
  · intro b i a r x hr hx
    obtain ⟨r', rfl, h⟩ := row b i r hr
    exact (blk_v m c t b i a r' h).trans (entry_of _ _ _ r' a rfl hx).symm
  · intro b i a r x hr hx
    obtain ⟨r', rfl, h⟩ := row b i r hr
    exact (blk_g m c t b i a r' h).trans (entry_of _ _ _ r' a rfl hx).symm
  · intro b i a r x hr hx
    have hr' : r < 512 := by omega
    exact (blk_d m c t b i a ⟨r, hr'⟩ (by show r = _; omega)).trans (entry_of _ _ _ ⟨r, hr'⟩ a rfl hx).symm
  · intro e
    exact (blk_w m c t e).trans (entry_of _ _ _ 0 e rfl rfl).symm

set_option maxHeartbeats 2000000 in
/-- The state kept after the first step. -/
theorem keptFirst (c : Dev nD) (t : Fin cfg0.N) (h0 : t.val % 64 = 0) (h : 0 = 4 * t.val) :
    (outsAt0 m c t.val t.isLt).2.2.1 = stBlock (entry (argKS m c)) (entry (argV m c)) (entry (argD m c)) 4 :=
  (congrArg (fun p => p.2.2.1) (outsAt0_A m c t h0)).trans (keptA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (block m c t 0 h))

set_option maxHeartbeats 2000000 in
/-- The output's block after the first step. -/
theorem writtenFirst (c : Dev nD) (t : Fin cfg0.N) (h0 : t.val % 64 = 0) (h : 0 = 4 * t.val) :
    (outsAt0 m c t.val t.isLt).1 = outBlock (entry (argQ m c)) (entry (argK m c)) (entry (argKS m c)) (entry (argV m c)) (entry (argD m c)) (entry (argG m c)) (entry (argW m c) 0) 0 :=
  (congrArg (fun p => p.1) (outsAt0_A m c t h0)).trans (blockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (block m c t 0 h))

set_option maxHeartbeats 2000000 in
/-- The state kept after a later step, from the state kept before it. -/
theorem keptLater (c : Dev nD) (t : Fin cfg0.N) (h0 : ¬t.val % 64 = 0) (n : ℕ) (h : n = 4 * t.val)
    (hs : (outsAt0 m c (t.val - 1) (Nat.lt_of_le_of_lt (Nat.sub_le _ _) t.isLt)).2.2.1 = stBlock (entry (argKS m c)) (entry (argV m c)) (entry (argD m c)) n) :
    (outsAt0 m c t.val t.isLt).2.2.1 = stBlock (entry (argKS m c)) (entry (argV m c)) (entry (argD m c)) (n + 4) :=
  (congrArg (fun p => p.2.2.1) (outsAt0_B m c t h0)).trans (keptB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.1 (outsAt0 m c (t.val - 1) (Nat.lt_of_le_of_lt (Nat.sub_le _ _) t.isLt)).2.2.2 (block m c t n h) hs)

set_option maxHeartbeats 2000000 in
/-- The output's block after a later step, from the state kept before it. -/
theorem writtenLater (c : Dev nD) (t : Fin cfg0.N) (h0 : ¬t.val % 64 = 0) (n : ℕ) (h : n = 4 * t.val)
    (hs : (outsAt0 m c (t.val - 1) (Nat.lt_of_le_of_lt (Nat.sub_le _ _) t.isLt)).2.2.1 = stBlock (entry (argKS m c)) (entry (argV m c)) (entry (argD m c)) n) :
    (outsAt0 m c t.val t.isLt).1 = outBlock (entry (argQ m c)) (entry (argK m c)) (entry (argKS m c)) (entry (argV m c)) (entry (argD m c)) (entry (argG m c)) (entry (argW m c) 0) n :=
  (congrArg (fun p => p.1) (outsAt0_B m c t h0)).trans (blockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.1 (outsAt0 m c (t.val - 1) (Nat.lt_of_le_of_lt (Nat.sub_le _ _) t.isLt)).2.2.2 (block m c t n h) hs)

/-- The state kept after step `n` is the state before the next group. -/
theorem kept (c : Dev nD) : ∀ (n : ℕ) (hn : n < cfg0.N), (outsAt0 m c n hn).2.2.1 = stBlock (entry (argKS m c)) (entry (argV m c)) (entry (argD m c)) (4 * n + 4)
  | 0, hn => keptFirst m c ⟨0, hn⟩ rfl rfl
  | n + 1, hn => by
    have hn' : n + 1 < 64 := hn
    exact keptLater m c ⟨n + 1, hn⟩ (by show ¬(n + 1) % 64 = 0; omega) _ rfl (kept c n _)

/-- The output's block after step `t`. -/
theorem written (c : Dev nD) (t : Fin cfg0.N) : (outsAt0 m c t.val t.isLt).1 = outBlock (entry (argQ m c)) (entry (argK m c)) (entry (argKS m c)) (entry (argV m c)) (entry (argD m c)) (entry (argG m c)) (entry (argW m c) 0) (4 * t.val) := by
  by_cases h0 : t.val = 0
  · rw [show 4 * t.val = 0 by omega]
    exact writtenFirst m c t (by omega) (by omega)
  · have ht : t.val < 64 := t.isLt
    refine writtenLater m c t (by omega) _ rfl ((kept m c _ _).trans ?_)
    rw [show 4 * (t.val - 1) + 4 = 4 * t.val by omega]

end Cert.Proof.Mix

end
-- ==== Proof.MixArray.lean ====
/-
  The first array the mixing call returns: the attention's outputs.
-/
module

public import proofs.«01_k».proof.Proof.MixValue

@[expose] public section

set_option maxRecDepth 16384

noncomputable section

namespace Cert.Proof.Mix

open Idealize.ShloMosaic Idealize.ShloMosaic.TcCoe Idealize.SL.Sem Idealize.ShloMosaic.StableHlo
open Cert.MixIdeal Cert.MixIdeal.Gen
open Cert.Proof.GlaSpec (entry entry_of)

variable (m : (ℓ : Loc nD τ sig) → Buf (Elt Ideal) ℓ)

/-- The array of the attention's outputs. -/
def attention (q k ks : FVec Ideal S32768x512 .bf16) (v g : FVec Ideal S32768x1024 .bf16) (d : FVec Ideal S512x512 .f32) (w : FVec Ideal S1x256 .f32) :
    FVec Ideal S2x16384x1024 .bf16 := fun y =>
  GlaSpec.out (entry q) (entry k) (entry ks) (entry v) (entry d) (entry g) (entry w 0) (y 0).val ((y 2).val / 256) ((y 1).val / 64) ((y 1).val % 64) ((y 2).val % 256)

theorem value (c : Dev nD) : (dats m 0 c).arrAt 15 cfg0.N = attention (argQ m c) (argK m c) (argKS m c) (argV m c) (argG m c) (argD m c) (argW m c) := by
  refine (dats m 0 c).arrAt_eq_of_covers 15 _ (by decide +kernel) fun t hf y => ?_
  obtain ⟨b, p, x, rfl⟩ : ∃ (b : Fin 2) (p : Fin 256) (x : Fin 1024), y = ix3 b p x := ⟨_, _, _, eq_ix3 y⟩
  show (dats m 0 c).after 15 t _ = _
  rw [after0_15, written]
  have e := (idx t).2.2.2.2.2.2.2
  have e0 : (((cfg0.win 15).blk t).view.emb (ix3 b p x) 0).val = b.val := by
    show win0_15.index t (0 : Fin 3) * 2 + 1 * b.val = _
    rw [e]; show 0 * 2 + 1 * b.val = _; omega
  have e1 : (((cfg0.win 15).blk t).view.emb (ix3 b p x) 1).val = 256 * t.val + p.val := by
    show win0_15.index t (1 : Fin 3) * 256 + 1 * p.val = _
    rw [e]; show t.val * 256 + 1 * p.val = _; omega
  have e2 : (((cfg0.win 15).blk t).view.emb (ix3 b p x) 2).val = x.val := by
    show win0_15.index t (2 : Fin 3) * 1024 + 1 * x.val = _
    rw [e]; show 0 * 1024 + 1 * x.val = _; omega
  show GlaSpec.out _ _ _ _ _ _ _ b.val (x.val / 256) (4 * t.val + p.val / 64) (p.val % 64) (x.val % 256) = _
  rw [attention, e0, e1, e2, show 4 * t.val + p.val / 64 = (256 * t.val + p.val) / 64 by omega, show p.val % 64 = (256 * t.val + p.val) % 64 by omega]

end Cert.Proof.Mix

end
-- ==== Proof.GlaRun.lean ====
/-
  The gated linear attention reference's run, stated over the step of its scan: from what the host leaves before the loop
  (`initState`), any sequence of states that starts there and follows `step` gives, after 256 trips, the array the program
  returns (`run_iter`). The lemmas say, value by value, what one trip computes from a valuation that holds a state.
-/
module

public import proofs.«01_k».proof.Proof.Gen.GlaIdeal.Run
public import proofs.«01_k».proof.Proof.Gen.GlaIdeal.Step

@[expose] public section

noncomputable section

namespace Cert.Proof.GlaRun

open Idealize.ShloMosaic Idealize.ShloMosaic.TcCoe Idealize.SL.Sem Idealize.ShloMosaic.StableHlo
open Cert.GlaIdeal Cert.GlaIdeal.Gen Cert.GlaIdeal.Value
open Cert.GlaIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v25_6) = s.main_v25_6
  f_7 : V0 (Proc.devRef .tc main_v25_7) = s.main_v25_7
  f_0 : V0 (Proc.devRef .tc main_v25_0) = s.main_v25_0
  f_1 : V0 (Proc.devRef .tc main_v25_1) = s.main_v25_1
  f_2 : V0 (Proc.devRef .tc main_v25_2) = s.main_v25_2
  f_3 : V0 (Proc.devRef .tc main_v25_3) = s.main_v25_3
  f_4 : V0 (Proc.devRef .tc main_v25_4) = s.main_v25_4
  n_5 : V0 (Proc.devRef .tc main_v25_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.GlaIdeal.Step.b0 j s := by
  unfold Cert.GlaIdeal.Step.b0
  rfl
set_option maxRecDepth 8192 in
theorem al_1 (h : Holds V0 s j) : (constantI S_ 32 0#32 : (Proc.devRef .tc main_while0b_call0_c_0 : DevRef τ sig).ty.Contents (Elt F)) = Cert.GlaIdeal.Step.b1 j s := by
  unfold Cert.GlaIdeal.Step.b1
  rfl
set_option maxRecDepth 8192 in
theorem al_2 (h : Holds V0 s j) : (constantI S_ 32 0#32 : (Proc.devRef .tc main_while0b_call0_c_1 : DevRef τ sig).ty.Contents (Elt F)) = Cert.GlaIdeal.Step.b2 j s := by
  unfold Cert.GlaIdeal.Step.b2
  rfl
set_option maxRecDepth 8192 in
theorem al_3 (h : Holds V0 s j) : (constantI S_ 32 0#32 : (Proc.devRef .tc main_while0b_call0_c_2 : DevRef τ sig).ty.Contents (Elt F)) = Cert.GlaIdeal.Step.b3 j s := by
  unfold Cert.GlaIdeal.Step.b3
  rfl
set_option maxRecDepth 8192 in
theorem al_4 (h : Holds V0 s j) : (Host.dynamicSlice S1x2x4x64x128 (V0 (Proc.devRef .tc main_v25_0)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128 : (Proc.devRef .tc main_while0b_call0_v0 : DevRef τ sig).ty.Contents (Elt F)) = Cert.GlaIdeal.Step.b4 j s := by
  unfold Cert.GlaIdeal.Step.b4
  rw [← al_0 h, ← al_1 h, ← al_2 h, ← al_3 h, h.f_0, h.n_5]
  try rfl
set_option maxRecDepth 8192 in
theorem al_5 (h : Holds V0 s j) : (res_main_while0b_v48 V0 : (Proc.devRef .tc main_while0b_v48 : DevRef τ sig).ty.Contents (Elt F)) = Cert.GlaIdeal.Step.b5 j s := by
  unfold res_main_while0b_v48 Cert.GlaIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.GlaIdeal.Step.b6 j s := by
  unfold Cert.GlaIdeal.Step.b6
  rfl
set_option maxRecDepth 8192 in
theorem al_7 (h : Holds V0 s j) : (constantI S_ 32 0#32 : (Proc.devRef .tc main_while0b_call1_c_0 : DevRef τ sig).ty.Contents (Elt F)) = Cert.GlaIdeal.Step.b7 j s := by
  unfold Cert.GlaIdeal.Step.b7
  rfl
set_option maxRecDepth 8192 in
theorem al_8 (h : Holds V0 s j) : (constantI S_ 32 0#32 : (Proc.devRef .tc main_while0b_call1_c_1 : DevRef τ sig).ty.Contents (Elt F)) = Cert.GlaIdeal.Step.b8 j s := by
  unfold Cert.GlaIdeal.Step.b8
  rfl
set_option maxRecDepth 8192 in
theorem al_9 (h : Holds V0 s j) : (constantI S_ 32 0#32 : (Proc.devRef .tc main_while0b_call1_c_2 : DevRef τ sig).ty.Contents (Elt F)) = Cert.GlaIdeal.Step.b9 j s := by
  unfold Cert.GlaIdeal.Step.b9
  rfl
set_option maxRecDepth 8192 in
theorem al_10 (h : Holds V0 s j) : (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128 : (Proc.devRef .tc main_while0b_call1_v0 : DevRef τ sig).ty.Contents (Elt F)) = Cert.GlaIdeal.Step.b10 j s := by
  unfold Cert.GlaIdeal.Step.b10
  rw [← al_6 h, ← al_7 h, ← al_8 h, ← al_9 h, h.f_1, h.n_5]
  try rfl
set_option maxRecDepth 8192 in
theorem al_11 (h : Holds V0 s j) : (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128 : (Proc.devRef .tc main_while0b_v49 : DevRef τ sig).ty.Contents (Elt F)) = Cert.GlaIdeal.Step.b11 j s := by
  unfold Cert.GlaIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.GlaIdeal.Step.b12 j s := by
  unfold Cert.GlaIdeal.Step.b12
  rfl
set_option maxRecDepth 8192 in
theorem al_13 (h : Holds V0 s j) : (constantI S_ 32 0#32 : (Proc.devRef .tc main_while0b_call2_c_0 : DevRef τ sig).ty.Contents (Elt F)) = Cert.GlaIdeal.Step.b13 j s := by
  unfold Cert.GlaIdeal.Step.b13
  rfl
set_option maxRecDepth 8192 in
theorem al_14 (h : Holds V0 s j) : (constantI S_ 32 0#32 : (Proc.devRef .tc main_while0b_call2_c_1 : DevRef τ sig).ty.Contents (Elt F)) = Cert.GlaIdeal.Step.b14 j s := by
  unfold Cert.GlaIdeal.Step.b14
  rfl
set_option maxRecDepth 8192 in
theorem al_15 (h : Holds V0 s j) : (constantI S_ 32 0#32 : (Proc.devRef .tc main_while0b_call2_c_2 : DevRef τ sig).ty.Contents (Elt F)) = Cert.GlaIdeal.Step.b15 j s := by
  unfold Cert.GlaIdeal.Step.b15
  rfl
set_option maxRecDepth 8192 in
theorem al_16 (h : Holds V0 s j) : (Host.dynamicSlice S1x2x4x64x128 (V0 (Proc.devRef .tc main_v25_2)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128 : (Proc.devRef .tc main_while0b_call2_v0 : DevRef τ sig).ty.Contents (Elt F)) = Cert.GlaIdeal.Step.b16 j s := by
  unfold Cert.GlaIdeal.Step.b16
  rw [← al_12 h, ← al_13 h, ← al_14 h, ← al_15 h, h.f_2, h.n_5]
  try rfl
set_option maxRecDepth 8192 in
theorem al_17 (h : Holds V0 s j) : (shapeCast S2x4x64x128 (Host.dynamicSlice S1x2x4x64x128 (V0 (Proc.devRef .tc main_v25_2)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128 : (Proc.devRef .tc main_while0b_v50 : DevRef τ sig).ty.Contents (Elt F)) = Cert.GlaIdeal.Step.b17 j s := by
  unfold Cert.GlaIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.GlaIdeal.Step.b18 j s := by
  unfold Cert.GlaIdeal.Step.b18
  rfl
set_option maxRecDepth 8192 in
theorem al_19 (h : Holds V0 s j) : (constantI S_ 32 0#32 : (Proc.devRef .tc main_while0b_call3_c_0 : DevRef τ sig).ty.Contents (Elt F)) = Cert.GlaIdeal.Step.b19 j s := by
  unfold Cert.GlaIdeal.Step.b19
  rfl
set_option maxRecDepth 8192 in
theorem al_20 (h : Holds V0 s j) : (constantI S_ 32 0#32 : (Proc.devRef .tc main_while0b_call3_c_1 : DevRef τ sig).ty.Contents (Elt F)) = Cert.GlaIdeal.Step.b20 j s := by
  unfold Cert.GlaIdeal.Step.b20
  rfl
set_option maxRecDepth 8192 in
theorem al_21 (h : Holds V0 s j) : (constantI S_ 32 0#32 : (Proc.devRef .tc main_while0b_call3_c_2 : DevRef τ sig).ty.Contents (Elt F)) = Cert.GlaIdeal.Step.b21 j s := by
  unfold Cert.GlaIdeal.Step.b21
  rfl
set_option maxRecDepth 8192 in
theorem al_22 (h : Holds V0 s j) : (Host.dynamicSlice S1x2x4x64x256 (V0 (Proc.devRef .tc main_v25_3)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x256_S1x2x4x64x256 : (Proc.devRef .tc main_while0b_call3_v0 : DevRef τ sig).ty.Contents (Elt F)) = Cert.GlaIdeal.Step.b22 j s := by
  unfold Cert.GlaIdeal.Step.b22
  rw [← al_18 h, ← al_19 h, ← al_20 h, ← al_21 h, h.f_3, h.n_5]
  try rfl
set_option maxRecDepth 8192 in
theorem al_23 (h : Holds V0 s j) : (res_main_while0b_v51 V0 : (Proc.devRef .tc main_while0b_v51 : DevRef τ sig).ty.Contents (Elt F)) = Cert.GlaIdeal.Step.b23 j s := by
  unfold res_main_while0b_v51 Cert.GlaIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.GlaIdeal.Step.b24 j s := by
  unfold Cert.GlaIdeal.Step.b24
  rfl
set_option maxRecDepth 8192 in
theorem al_25 (h : Holds V0 s j) : (constantI S_ 32 0#32 : (Proc.devRef .tc main_while0b_call4_c_0 : DevRef τ sig).ty.Contents (Elt F)) = Cert.GlaIdeal.Step.b25 j s := by
  unfold Cert.GlaIdeal.Step.b25
  rfl
set_option maxRecDepth 8192 in
theorem al_26 (h : Holds V0 s j) : (constantI S_ 32 0#32 : (Proc.devRef .tc main_while0b_call4_c_1 : DevRef τ sig).ty.Contents (Elt F)) = Cert.GlaIdeal.Step.b26 j s := by
  unfold Cert.GlaIdeal.Step.b26
  rfl
set_option maxRecDepth 8192 in
theorem al_27 (h : Holds V0 s j) : (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128 : (Proc.devRef .tc main_while0b_call4_v0 : DevRef τ sig).ty.Contents (Elt F)) = Cert.GlaIdeal.Step.b27 j s := by
  unfold Cert.GlaIdeal.Step.b27
  rw [← al_24 h, ← al_25 h, ← al_26 h, h.f_4, h.n_5]
  try rfl
set_option maxRecDepth 8192 in
theorem al_28 (h : Holds V0 s j) : (shapeCast S2x4x128 (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128) shapeCasts_S1x2x4x128_S2x4x128 : (Proc.devRef .tc main_while0b_v52 : DevRef τ sig).ty.Contents (Elt F)) = Cert.GlaIdeal.Step.b28 j s := by
  unfold Cert.GlaIdeal.Step.b28
  rw [← al_27 h]
  try rfl
set_option maxRecDepth 8192 in
theorem al_29 (h : Holds V0 s j) : (Host.dotGeneral dot_S2x4x64x128_S2x4x64x128_S2x4x64x64_3_3_2_2_01_01 none (res_main_while0b_v48 V0) (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128) : (Proc.devRef .tc main_while0b_v53 : DevRef τ sig).ty.Contents (Elt F)) = Cert.GlaIdeal.Step.b29 j s := by
  unfold Cert.GlaIdeal.Step.b29
  rw [← al_5 h, ← al_11 h]
  try rfl
set_option maxRecDepth 8192 in
theorem al_30 (h : Holds V0 s j) : (constantI S_ 1 1#1 : (Proc.devRef .tc main_while0b_c_11 : DevRef τ sig).ty.Contents (Elt F)) = Cert.GlaIdeal.Step.b30 j s := by
  unfold Cert.GlaIdeal.Step.b30
  rfl
set_option maxRecDepth 8192 in
theorem al_31 (h : Holds V0 s j) : (broadcastInDim S64x64 ![] bcast_S_S64x64 (constantI S_ 1 1#1) : (Proc.devRef .tc main_while0b_v54 : DevRef τ sig).ty.Contents (Elt F)) = Cert.GlaIdeal.Step.b31 j s := by
  unfold Cert.GlaIdeal.Step.b31
  rw [← al_30 h]
  try rfl
set_option maxRecDepth 8192 in
theorem al_32 (h : Holds V0 s j) : (iotaInDim S64x64 32 0 : (Proc.devRef .tc main_while0b_call5_v0 : DevRef τ sig).ty.Contents (Elt F)) = Cert.GlaIdeal.Step.b32 j s := by
  unfold Cert.GlaIdeal.Step.b32
  rfl
set_option maxRecDepth 8192 in
theorem al_33 (h : Holds V0 s j) : (constantI S_ 32 0#32 : (Proc.devRef .tc main_while0b_call5_c : DevRef τ sig).ty.Contents (Elt F)) = Cert.GlaIdeal.Step.b33 j s := by
  unfold Cert.GlaIdeal.Step.b33
  rfl
set_option maxRecDepth 8192 in
theorem al_34 (h : Holds V0 s j) : (broadcastInDim S64x64 ![] bcast_S_S64x64 (constantI S_ 32 0#32) : (Proc.devRef .tc main_while0b_call5_v1 : DevRef τ sig).ty.Contents (Elt F)) = Cert.GlaIdeal.Step.b34 j s := by
  unfold Cert.GlaIdeal.Step.b34
  rw [← al_33 h]
  try rfl
set_option maxRecDepth 8192 in
theorem al_35 (h : Holds V0 s j) : (addi (iotaInDim S64x64 32 0) (broadcastInDim S64x64 ![] bcast_S_S64x64 (constantI S_ 32 0#32)) : (Proc.devRef .tc main_while0b_call5_v2 : DevRef τ sig).ty.Contents (Elt F)) = Cert.GlaIdeal.Step.b35 j s := by
  unfold Cert.GlaIdeal.Step.b35
  rw [← al_32 h, ← al_34 h]
  try rfl
set_option maxRecDepth 8192 in
theorem al_36 (h : Holds V0 s j) : (iotaInDim S64x64 32 1 : (Proc.devRef .tc main_while0b_call5_v3 : DevRef τ sig).ty.Contents (Elt F)) = Cert.GlaIdeal.Step.b36 j s := by
  unfold Cert.GlaIdeal.Step.b36
  rfl
set_option maxRecDepth 8192 in
theorem al_37 (h : Holds V0 s j) : (cmpi .sge (addi (iotaInDim S64x64 32 0) (broadcastInDim S64x64 ![] bcast_S_S64x64 (constantI S_ 32 0#32))) (iotaInDim S64x64 32 1) : (Proc.devRef .tc main_while0b_call5_v4 : DevRef τ sig).ty.Contents (Elt F)) = Cert.GlaIdeal.Step.b37 j s := by
  unfold Cert.GlaIdeal.Step.b37
  rw [← al_35 h, ← al_36 h]
  try rfl
set_option maxRecDepth 8192 in
theorem al_38 (h : Holds V0 s j) : (constantI S_ 1 0#1 : (Proc.devRef .tc main_while0b_call5_c_0 : DevRef τ sig).ty.Contents (Elt F)) = Cert.GlaIdeal.Step.b38 j s := by
  unfold Cert.GlaIdeal.Step.b38
  rfl
set_option maxRecDepth 8192 in
theorem al_39 (h : Holds V0 s j) : (broadcastInDim S64x64 ![] bcast_S_S64x64 (constantI S_ 1 0#1) : (Proc.devRef .tc main_while0b_call5_v5 : DevRef τ sig).ty.Contents (Elt F)) = Cert.GlaIdeal.Step.b39 j s := by
  unfold Cert.GlaIdeal.Step.b39
  rw [← al_38 h]
  try rfl
set_option maxRecDepth 8192 in
theorem al_40 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v55 : DevRef τ sig).ty.Contents (Elt F)) = Cert.GlaIdeal.Step.b40 j s := by
  unfold Cert.GlaIdeal.Step.b40
  rw [← al_37 h, ← al_31 h, ← al_39 h]
  try rfl
set_option maxRecDepth 8192 in
theorem al_41 (h : Holds V0 s j) : (constant S_ .f32 0x00000000#32 : (Proc.devRef .tc main_while0b_cst_12 : DevRef τ sig).ty.Contents (Elt F)) = Cert.GlaIdeal.Step.b41 j s := by
  unfold Cert.GlaIdeal.Step.b41
  rfl
set_option maxRecDepth 8192 in
theorem al_42 (h : Holds V0 s j) : (id (constant S_ .f32 0x00000000#32) : (Proc.devRef .tc main_while0b_call6_v0 : DevRef τ sig).ty.Contents (Elt F)) = Cert.GlaIdeal.Step.b42 j s := by
  unfold Cert.GlaIdeal.Step.b42
  rw [← al_41 h]
  try rfl
set_option maxRecDepth 8192 in
theorem al_43 (h : Holds V0 s j) : (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call6_v1 : DevRef τ sig).ty.Contents (Elt F)) = Cert.GlaIdeal.Step.b43 j s := by
  unfold Cert.GlaIdeal.Step.b43
  rw [← al_40 h]
  try rfl
set_option maxRecDepth 8192 in
theorem al_44 (h : Holds V0 s j) : (broadcastInDim S2x4x64x64 ![] bcast_S_S2x4x64x64 (id (constant S_ .f32 0x00000000#32)) : (Proc.devRef .tc main_while0b_call6_v2 : DevRef τ sig).ty.Contents (Elt F)) = Cert.GlaIdeal.Step.b44 j s := by
  unfold Cert.GlaIdeal.Step.b44
  rw [← al_42 h]
  try rfl
set_option maxRecDepth 8192 in
theorem al_45 (h : Holds V0 s j) : (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v48 V0) (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128)) (broadcastInDim S2x4x64x64 ![] bcast_S_S2x4x64x64 (id (constant S_ .f32 0x00000000#32))) : (Proc.devRef .tc main_while0b_v56 : DevRef τ sig).ty.Contents (Elt F)) = Cert.GlaIdeal.Step.b45 j s := by
  unfold Cert.GlaIdeal.Step.b45
  rw [← al_43 h, ← al_29 h, ← al_44 h]
  try rfl
set_option maxRecDepth 8192 in
theorem al_46 (h : Holds V0 s j) : (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v48 V0) (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128)) (broadcastInDim S2x4x64x64 ![] bcast_S_S2x4x64x64 (id (constant S_ .f32 0x00000000#32)))) (res_main_while0b_v51 V0) : (Proc.devRef .tc main_while0b_v57 : DevRef τ sig).ty.Contents (Elt F)) = Cert.GlaIdeal.Step.b46 j s := by
  unfold Cert.GlaIdeal.Step.b46
  rw [← al_45 h, ← al_23 h]
  try rfl
set_option maxRecDepth 8192 in
theorem al_47 (h : Holds V0 s j) : (Host.dotGeneral dot_S2x4x64x128_S2x4x128x256_S2x4x64x256_3_2_2_3_01_01 none (res_main_while0b_v48 V0) (V0 (Proc.devRef .tc main_v25_6)) : (Proc.devRef .tc main_while0b_v58 : DevRef τ sig).ty.Contents (Elt F)) = Cert.GlaIdeal.Step.b47 j s := by
  unfold Cert.GlaIdeal.Step.b47
  rw [← al_5 h, h.f_6]
  try rfl
set_option maxRecDepth 8192 in
theorem al_48 (h : Holds V0 s j) : (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v48 V0) (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128)) (broadcastInDim S2x4x64x64 ![] bcast_S_S2x4x64x64 (id (constant S_ .f32 0x00000000#32)))) (res_main_while0b_v51 V0)) (Host.dotGeneral dot_S2x4x64x128_S2x4x128x256_S2x4x64x256_3_2_2_3_01_01 none (res_main_while0b_v48 V0) (V0 (Proc.devRef .tc main_v25_6))) : (Proc.devRef .tc main_while0b_v59 : DevRef τ sig).ty.Contents (Elt F)) = Cert.GlaIdeal.Step.b48 j s := by
  unfold Cert.GlaIdeal.Step.b48
  rw [← al_46 h, ← al_47 h]
  try rfl
set_option maxRecDepth 8192 in
theorem al_49 (h : Holds V0 s j) : (broadcastInDim S2x4x128x1 ![0, 1, 2] bcast_S2x4x128_S2x4x128x1_0_1_2 (shapeCast S2x4x128 (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128) shapeCasts_S1x2x4x128_S2x4x128) : (Proc.devRef .tc main_while0b_v60 : DevRef τ sig).ty.Contents (Elt F)) = Cert.GlaIdeal.Step.b49 j s := by
  unfold Cert.GlaIdeal.Step.b49
  rw [← al_28 h]
  try rfl
set_option maxRecDepth 8192 in
theorem al_50 (h : Holds V0 s j) : (broadcastInDim S2x4x128x256 ![0, 1, 2, 3] bcast_S2x4x128x1_S2x4x128x256_0_1_2_3 (broadcastInDim S2x4x128x1 ![0, 1, 2] bcast_S2x4x128_S2x4x128x1_0_1_2 (shapeCast S2x4x128 (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128) shapeCasts_S1x2x4x128_S2x4x128)) : (Proc.devRef .tc main_while0b_v61 : DevRef τ sig).ty.Contents (Elt F)) = Cert.GlaIdeal.Step.b50 j s := by
  unfold Cert.GlaIdeal.Step.b50
  rw [← al_49 h]
  try rfl
set_option maxRecDepth 8192 in
theorem al_51 (h : Holds V0 s j) : (mulf (broadcastInDim S2x4x128x256 ![0, 1, 2, 3] bcast_S2x4x128x1_S2x4x128x256_0_1_2_3 (broadcastInDim S2x4x128x1 ![0, 1, 2] bcast_S2x4x128_S2x4x128x1_0_1_2 (shapeCast S2x4x128 (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128) shapeCasts_S1x2x4x128_S2x4x128))) (V0 (Proc.devRef .tc main_v25_6)) : (Proc.devRef .tc main_while0b_v62 : DevRef τ sig).ty.Contents (Elt F)) = Cert.GlaIdeal.Step.b51 j s := by
  unfold Cert.GlaIdeal.Step.b51
  rw [← al_50 h, h.f_6]
  try rfl
set_option maxRecDepth 8192 in
theorem al_52 (h : Holds V0 s j) : (Host.dotGeneral dot_S2x4x64x128_S2x4x64x256_S2x4x128x256_2_2_3_3_01_01 none (shapeCast S2x4x64x128 (Host.dynamicSlice S1x2x4x64x128 (V0 (Proc.devRef .tc main_v25_2)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128) (res_main_while0b_v51 V0) : (Proc.devRef .tc main_while0b_v63 : DevRef τ sig).ty.Contents (Elt F)) = Cert.GlaIdeal.Step.b52 j s := by
  unfold Cert.GlaIdeal.Step.b52
  rw [← al_17 h, ← al_23 h]
  try rfl
set_option maxRecDepth 8192 in
theorem al_53 (h : Holds V0 s j) : (addf (mulf (broadcastInDim S2x4x128x256 ![0, 1, 2, 3] bcast_S2x4x128x1_S2x4x128x256_0_1_2_3 (broadcastInDim S2x4x128x1 ![0, 1, 2] bcast_S2x4x128_S2x4x128x1_0_1_2 (shapeCast S2x4x128 (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128) shapeCasts_S1x2x4x128_S2x4x128))) (V0 (Proc.devRef .tc main_v25_6))) (Host.dotGeneral dot_S2x4x64x128_S2x4x64x256_S2x4x128x256_2_2_3_3_01_01 none (shapeCast S2x4x64x128 (Host.dynamicSlice S1x2x4x64x128 (V0 (Proc.devRef .tc main_v25_2)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128) (res_main_while0b_v51 V0)) : (Proc.devRef .tc main_while0b_v64 : DevRef τ sig).ty.Contents (Elt F)) = Cert.GlaIdeal.Step.b53 j s := by
  unfold Cert.GlaIdeal.Step.b53
  rw [← al_51 h, ← al_52 h]
  try rfl
set_option maxRecDepth 8192 in
theorem al_54 (h : Holds V0 s j) : (broadcastInDim S1x2x4x64x256 ![1, 2, 3, 4] bcast_S2x4x64x256_S1x2x4x64x256_1_2_3_4 (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v48 V0) (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128)) (broadcastInDim S2x4x64x64 ![] bcast_S_S2x4x64x64 (id (constant S_ .f32 0x00000000#32)))) (res_main_while0b_v51 V0)) (Host.dotGeneral dot_S2x4x64x128_S2x4x128x256_S2x4x64x256_3_2_2_3_01_01 none (res_main_while0b_v48 V0) (V0 (Proc.devRef .tc main_v25_6)))) : (Proc.devRef .tc main_while0b_call7_v0 : DevRef τ sig).ty.Contents (Elt F)) = Cert.GlaIdeal.Step.b54 j s := by
  unfold Cert.GlaIdeal.Step.b54
  rw [← al_48 h]
  try rfl
set_option maxRecDepth 8192 in
theorem al_55 (h : Holds V0 s j) : (constantI S_ 32 0#32 : (Proc.devRef .tc main_while0b_call7_c : DevRef τ sig).ty.Contents (Elt F)) = Cert.GlaIdeal.Step.b55 j s := by
  unfold Cert.GlaIdeal.Step.b55
  rfl
set_option maxRecDepth 8192 in
theorem al_56 (h : Holds V0 s j) : (constantI S_ 32 0#32 : (Proc.devRef .tc main_while0b_call7_c_0 : DevRef τ sig).ty.Contents (Elt F)) = Cert.GlaIdeal.Step.b56 j s := by
  unfold Cert.GlaIdeal.Step.b56
  rfl
set_option maxRecDepth 8192 in
theorem al_57 (h : Holds V0 s j) : (constantI S_ 32 0#32 : (Proc.devRef .tc main_while0b_call7_c_1 : DevRef τ sig).ty.Contents (Elt F)) = Cert.GlaIdeal.Step.b57 j s := by
  unfold Cert.GlaIdeal.Step.b57
  rfl
set_option maxRecDepth 8192 in
theorem al_58 (h : Holds V0 s j) : (constantI S_ 32 0#32 : (Proc.devRef .tc main_while0b_call7_c_2 : DevRef τ sig).ty.Contents (Elt F)) = Cert.GlaIdeal.Step.b58 j s := by
  unfold Cert.GlaIdeal.Step.b58
  rfl
set_option maxRecDepth 8192 in
theorem al_59 (h : Holds V0 s j) : (Host.dynamicUpdateSlice (V0 (Proc.devRef .tc main_v25_7)) (broadcastInDim S1x2x4x64x256 ![1, 2, 3, 4] bcast_S2x4x64x256_S1x2x4x64x256_1_2_3_4 (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v48 V0) (shapeCast S2x4x64x128 (Host.dynamicSlice S1x2x4x64x128 (V0 (Proc.devRef .tc main_v25_1)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128)) (broadcastInDim S2x4x64x64 ![] bcast_S_S2x4x64x64 (id (constant S_ .f32 0x00000000#32)))) (res_main_while0b_v51 V0)) (Host.dotGeneral dot_S2x4x64x128_S2x4x128x256_S2x4x64x256_3_2_2_3_01_01 none (res_main_while0b_v48 V0) (V0 (Proc.devRef .tc main_v25_6))))) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) updateFits_S256x2x4x64x256_S1x2x4x64x256 : (Proc.devRef .tc main_while0b_v65 : DevRef τ sig).ty.Contents (Elt F)) = Cert.GlaIdeal.Step.b59 j s := by
  unfold Cert.GlaIdeal.Step.b59
  rw [← al_54 h, ← al_55 h, ← al_56 h, ← al_57 h, ← al_58 h, h.f_7, h.n_5]
  try rfl

/-! One trip's step of the carried values is `step`, field by field; a counter steps to the next number. -/

theorem step_6 (h : Holds V0 s j) : step_main_v25_6 V0 = (step j s).main_v25_6 := by
  unfold step_main_v25_6 Cert.GlaIdeal.Step.step
  show id (addf (mulf (broadcastInDim S2x4x128x256 ![0, 1, 2, 3] bcast_S2x4x128x1_S2x4x128x256_0_1_2_3 (broadcastInDim S2x4x128x1 ![0, 1, 2] bcast_S2x4x128_S2x4x128x1_0_1_2 (shapeCast S2x4x128 (Host.dynamicSlice S1x2x4x128 (V0 (Proc.devRef .tc main_v25_4)) (fun k => (((![V0 (Proc.devRef .tc main_v25_5), constantI S_ 32 0#32, constantI S_ 32 0#32, constantI S_ 32 0#32] : Fin 4 → (⟨S_, .i32⟩ : BufTy).Contents (Elt F))) k (Shape.Idx.first h_S_)).toInt) sliceFits_S256x2x4x128_S1x2x4x128) shapeCasts_S1x2x4x128_S2x4x128))) (V0 (Proc.devRef .tc main_v25_6))) (Host.dotGeneral dot_S2x4x64x128_S2x4x64x256_S2x4x128x256_2_2_3_3_01_01 none (shapeCast S2x4x64x128 (Host.dynamicSlice S1x2x4x64x128 (V0 (Proc.devRef .tc main_v25_2)) (fun k => (((![V0 (Proc.devRef .tc main_v25_5), constantI S_ 32 0#32, constantI S_ 32 0#32, constantI S_ 32 0#32, constantI S_ 32 0#32] : Fin 5 → (⟨S_, .i32⟩ : BufTy).Contents (Elt F))) k (Shape.Idx.first h_S_)).toInt) sliceFits_S256x2x4x64x128_S1x2x4x64x128) shapeCasts_S1x2x4x64x128_S2x4x64x128) (res_main_while0b_v51 V0))) = _
  rw [al_53 h]
  try rfl
theorem step_7 (h : Holds V0 s j) : step_main_v25_7 V0 = (step j s).main_v25_7 := al_59 h
theorem step_5 (h : Holds V0 s j) : step_main_v25_5 V0 = constantI S_ 32 (BitVec.ofNat 32 (j + 1)) := by
  unfold step_main_v25_5
  rw [h.n_5]
  funext i
  show BitVec.ofNat 32 j + 1#32 = BitVec.ofNat 32 (j + 1)
  simp only [BitVec.ofNat_add]

set_option maxRecDepth 8192 in
theorem out_main_v47_holds (h : Holds V0 s j) {x_main_arg4 : (⟨S32768x1024, .bf16⟩ : BufTy).Contents (Elt F)} (h_main_arg4 : V0 (Proc.devRef .tc main_arg4) = x_main_arg4) {x_main_arg12 : (⟨S1x256, .f32⟩ : BufTy).Contents (Elt F)} (h_main_arg12 : V0 (Proc.devRef .tc main_arg12) = x_main_arg12) : out_main_v47 V0 = Cert.GlaIdeal.Step.R_main_v47 s x_main_arg4 x_main_arg12 := by
  unfold out_main_v47 Cert.GlaIdeal.Step.R_main_v47
  rw [h.f_7, h_main_arg4, h_main_arg12]
  try rfl

/-- One trip keeps the valuation holding: `step` of the state, the same set-up values, the next number. -/
theorem holds_step (h : Holds V0 s j) : Holds (STEP V0) (step j s) (j + 1) where
  f_6 := (STEP_main_v25_6 V0).trans (step_6 h)
  f_7 := (STEP_main_v25_7 V0).trans (step_7 h)
  n_5 := (STEP_main_v25_5 V0).trans (step_5 h)
  f_0 := (STEP_main_v25_0 V0).trans h.f_0
  f_1 := (STEP_main_v25_1 V0).trans h.f_1
  f_2 := (STEP_main_v25_2 V0).trans h.f_2
  f_3 := (STEP_main_v25_3 V0).trans h.f_3
  f_4 := (STEP_main_v25_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v47) = Cert.GlaIdeal.Step.R_main_v47 (it c 256) (m ((c.tc : Thread nD τ).loc main_arg4)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 256
    ⟨(h c).1.trans (out_main_v47_holds hk (iter_main_arg4 m c 256) (iter_main_arg12 m c 256)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.Proof.GlaRun

end
-- ==== Proof.GlaRefValue.lean ====
/-
  The gated linear attention reference read in plain sums: after `n` trips of its scan the carried state is the sum over the
  chunks before `n` and the first `n` chunks of the output are their rows (`Inv`); the array it returns is `GlaSpec.out`.
-/
module

public import proofs.«01_k».proof.Proof.GlaRun
public import proofs.«01_k».proof.Proof.GlaSpec
public import Idealize.ShloMosaic.Lib.WordCmp
public import Idealize.ShloMosaic.Lib.DynamicIndex

@[expose] public section

set_option maxRecDepth 16384

noncomputable section

namespace Cert.Proof.GlaRef

open Idealize.ShloMosaic Idealize.ShloMosaic.TcCoe Idealize.SL.Sem Idealize.ShloMosaic.StableHlo
open Cert.GlaIdeal Cert.GlaIdeal.Gen Cert.GlaIdeal.Step
open Cert.Proof.GlaSpec (entry entry_of)

variable (a0 a1 a2 : FVec Ideal S32768x512 .bf16) (a3 : FVec Ideal S32768x1024 .bf16) (a5 : FVec Ideal S512x512 .f32)

/-! The arrays stacked by chunk. -/

theorem q_at (n : Fin 256) (b : Fin 2) (h : Fin 4) (i : Fin 64) (a : Fin 128) :
    A_main_v19 (F := Ideal) a0 a1 a2 a3 a5 (ix5 n b h i a) = entry a0 (16384 * b + 64 * n + i) (128 * h + a) := by
  refine Eq.trans ?_ (entry_of a0 _ _ ⟨b.val * 16384 + n.val * 64 + i.val, by omega⟩ ⟨h.val * 128 + a.val, by omega⟩ (by simp; omega) (by simp; omega)).symm
  pointwise [A_main_v19, A_main_v3, A_main_v2, A_main_v1, A_main_v0]

theorem k_at (n : Fin 256) (b : Fin 2) (h : Fin 4) (i : Fin 64) (a : Fin 128) :
    A_main_v20 (F := Ideal) a0 a1 a2 a3 a5 (ix5 n b h i a) = entry a1 (16384 * b + 64 * n + i) (128 * h + a) := by
  refine Eq.trans ?_ (entry_of a1 _ _ ⟨b.val * 16384 + n.val * 64 + i.val, by omega⟩ ⟨h.val * 128 + a.val, by omega⟩ (by simp; omega) (by simp; omega)).symm
  pointwise [A_main_v20, A_main_v7, A_main_v6, A_main_v5, A_main_v4]

theorem ks_at (n : Fin 256) (b : Fin 2) (h : Fin 4) (i : Fin 64) (a : Fin 128) :
    A_main_v21 (F := Ideal) a0 a1 a2 a3 a5 (ix5 n b h i a) = entry a2 (16384 * b + 64 * n + i) (128 * h + a) := by
  refine Eq.trans ?_ (entry_of a2 _ _ ⟨b.val * 16384 + n.val * 64 + i.val, by omega⟩ ⟨h.val * 128 + a.val, by omega⟩ (by simp; omega) (by simp; omega)).symm
  pointwise [A_main_v21, A_main_v11, A_main_v10, A_main_v9, A_main_v8]

theorem v_at (n : Fin 256) (b : Fin 2) (h : Fin 4) (i : Fin 64) (e : Fin 256) :
    A_main_v22 (F := Ideal) a0 a1 a2 a3 a5 (ix5 n b h i e) = entry a3 (16384 * b + 64 * n + i) (256 * h + e) := by
  refine Eq.trans ?_ (entry_of a3 _ _ ⟨b.val * 16384 + n.val * 64 + i.val, by omega⟩ ⟨h.val * 256 + e.val, by omega⟩ (by simp; omega) (by simp; omega)).symm
  pointwise [A_main_v22, A_main_v15, A_main_v14, A_main_v13, A_main_v12]

theorem d_at (n : Fin 256) (b : Fin 2) (h : Fin 4) (a : Fin 128) :
    A_main_v23 (F := Ideal) a0 a1 a2 a3 a5 (ix4 n b h a) = entry a5 (256 * b + n) (128 * h + a) := by
  refine Eq.trans ?_ (entry_of a5 _ _ ⟨b.val * 256 + n.val, by omega⟩ ⟨h.val * 128 + a.val, by omega⟩ (by simp; omega) (by simp; omega)).symm
  pointwise [A_main_v23, A_main_v17, A_main_v16]

/-! One trip: what it slices out of the stacked arrays, and what it computes. -/

variable (j : ℕ) (s : State Ideal) (hj : j < 256)

/-- The starts of a trip's slice of a rank-five array: the trip's number, then zeros. -/
def starts : Fin 5 → Int :=
  fun k => (((![(constantI S_ 32 (BitVec.ofNat 32 j)), (constantI S_ 32 0#32), (constantI S_ 32 0#32), (constantI S_ 32 0#32), (constantI S_ 32 0#32)] : Fin 5 → S_.Idx → BitVec 32)) k (Shape.Idx.first h_S_)).toInt

/-- The same of a rank-four array. -/
def starts' : Fin 4 → Int :=
  fun k => (((![(constantI S_ 32 (BitVec.ofNat 32 j)), (constantI S_ 32 0#32), (constantI S_ 32 0#32), (constantI S_ 32 0#32)] : Fin 4 → S_.Idx → BitVec 32)) k (Shape.Idx.first h_S_)).toInt

include hj

theorem starts_at (k : Fin 5) : starts j k = ((![j, 0, 0, 0, 0] : Fin 5 → ℕ) k : Int) := by
  fin_cases k
  · exact toInt_ofNat_of_lt (by omega)
  all_goals rfl

theorem starts_at' (k : Fin 4) : starts' j k = ((![j, 0, 0, 0] : Fin 4 → ℕ) k : Int) := by
  fin_cases k
  · exact toInt_ofNat_of_lt (by omega)
  all_goals rfl

theorem fits_key : S256x2x4x64x128.Slices (![j, 0, 0, 0, 0] : Fin 5 → ℕ) S1x2x4x64x128 :=
  ⟨rfl, fun a => by fin_cases a <;> simp; omega⟩

theorem fits_val : S256x2x4x64x256.Slices (![j, 0, 0, 0, 0] : Fin 5 → ℕ) S1x2x4x64x256 :=
  ⟨rfl, fun a => by fin_cases a <;> simp; omega⟩

theorem fits_dec : S256x2x4x128.Slices (![j, 0, 0, 0] : Fin 4 → ℕ) S1x2x4x128 :=
  ⟨rfl, fun a => by fin_cases a <;> simp; omega⟩

theorem q_slice (b : Fin 2) (h : Fin 4) (i : Fin 64) (a : Fin 128) : b5 j s (ix4 b h i a) = s.main_v25_0 (ix5 ⟨j, hj⟩ b h i a) := by
  have e : b4 j s = extractStridedSlice S1x2x4x64x128 ![j, 0, 0, 0, 0] s.main_v25_0 (fits_key j hj) := WordCmp.dynamicSlice_eq_extract _ _ _ _ _ _ (starts_at j hj)
  rw [b5, e]
  pointwise

theorem k_slice (b : Fin 2) (h : Fin 4) (i : Fin 64) (a : Fin 128) : b11 j s (ix4 b h i a) = s.main_v25_1 (ix5 ⟨j, hj⟩ b h i a) := by
  have e : b10 j s = extractStridedSlice S1x2x4x64x128 ![j, 0, 0, 0, 0] s.main_v25_1 (fits_key j hj) := WordCmp.dynamicSlice_eq_extract _ _ _ _ _ _ (starts_at j hj)
  rw [b11, e]
  pointwise

theorem ks_slice (b : Fin 2) (h : Fin 4) (i : Fin 64) (a : Fin 128) : b17 j s (ix4 b h i a) = s.main_v25_2 (ix5 ⟨j, hj⟩ b h i a) := by
  have e : b16 j s = extractStridedSlice S1x2x4x64x128 ![j, 0, 0, 0, 0] s.main_v25_2 (fits_key j hj) := WordCmp.dynamicSlice_eq_extract _ _ _ _ _ _ (starts_at j hj)
  rw [b17, e]
  pointwise

theorem v_slice (b : Fin 2) (h : Fin 4) (i : Fin 64) (x : Fin 256) : b23 j s (ix4 b h i x) = s.main_v25_3 (ix5 ⟨j, hj⟩ b h i x) := by
  have e : b22 j s = extractStridedSlice S1x2x4x64x256 ![j, 0, 0, 0, 0] s.main_v25_3 (fits_val j hj) := WordCmp.dynamicSlice_eq_extract _ _ _ _ _ _ (starts_at j hj)
  rw [b23, e]
  pointwise

theorem d_slice (b : Fin 2) (h : Fin 4) (a : Fin 128) : b28 j s (ix3 b h a) = s.main_v25_4 (ix4 ⟨j, hj⟩ b h a) := by
  have e : b27 j s = extractStridedSlice S1x2x4x128 ![j, 0, 0, 0] s.main_v25_4 (fits_dec j hj) := WordCmp.dynamicSlice_eq_extract _ _ _ _ _ _ (starts_at' j hj)
  rw [b28, e]
  pointwise

theorem kept_at (n : Fin 256) (b : Fin 2) (h : Fin 4) (i : Fin 64) (x : Fin 256) :
    b59 j s (ix5 n b h i x) = if n.val = j then b48 j s (ix4 b h i x) else s.main_v25_7 (ix5 n b h i x) := by
  have e : b59 j s = updateSlice s.main_v25_7 (b54 j s) ![j, 0, 0, 0, 0] (fits_val j hj) := WordCmp.dynamicUpdateSlice_eq_update _ _ _ _ _ _ (starts_at j hj)
  rw [e]
  pointwise [b54]
  exact if_congr (by omega) rfl rfl

omit hj

theorem causal : ∀ i i' : Fin 64, Scalar.select (IntOp.cmpi CmpIPredicate.sge (IntOp.addi (BitVec.ofNat 32 i.val) 0#32) (BitVec.ofNat 32 i'.val)) 1#1 0#1
    = if i'.val ≤ i.val then 1#1 else 0#1 := by
  decide +kernel

theorem score_at (b : Fin 2) (h : Fin 4) (i i' : Fin 64) :
    b45 j s (ix4 b h i i') = if i'.val ≤ i.val then ∑ a, b5 j s (ix4 b h i a) * b11 j s (ix4 b h i' a) else 0 := by
  pointwise [b45, b44, b43, b42, b41, b40, b39, b38, b37, b36, b35, b34, b33, b32, b31, b30, b29]
  rw [causal i i']
  split <;> rfl

theorem row_at (b : Fin 2) (h : Fin 4) (i : Fin 64) (x : Fin 256) : b48 j s (ix4 b h i x)
    = (∑ i', b45 j s (ix4 b h i i') * b23 j s (ix4 b h i' x)) + ∑ a, b5 j s (ix4 b h i a) * s.main_v25_6 (ix4 b h a x) := by
  pointwise [b48, b47, b46]

theorem state_at (b : Fin 2) (h : Fin 4) (a : Fin 128) (x : Fin 256) : b53 j s (ix4 b h a x)
    = b28 j s (ix3 b h a) * s.main_v25_6 (ix4 b h a x) + ∑ i, b17 j s (ix4 b h i a) * b23 j s (ix4 b h i x) := by
  pointwise [b53, b52, b51, b50, b49]

theorem result_at (a4 : FVec Ideal S32768x1024 .bf16) (a12 : FVec Ideal S1x256 .f32) (b : Fin 2) (p : Fin 16384) (x : Fin 1024)
    (r : Fin 256 → EReal) (hr : ∀ e, s.main_v25_7 (ix5 (⟨p.val / 64, by omega⟩ : Fin 256) b (⟨x.val / 256, by omega⟩ : Fin 4) (⟨p.val % 64, by omega⟩ : Fin 64) e) = r e) :
    R_main_v47 s a4 a12 (ix3 b p x) = r ⟨x.val % 256, by omega⟩ * GlaSpec.scale r * a12 (ix2 0 ⟨x.val % 256, by omega⟩) * a4 (ix2 ⟨b.val * 16384 + p.val, by omega⟩ x) := by
  pointwise [R_main_v47]
  simp only [hr]
  rfl

/-! The scan. -/

/-- The states of the scan. -/
def it : ℕ → State Ideal
  | 0 => init a0 a1 a2 a3 a5
  | n + 1 => step n (it n)

/-- What holds before trip `n`. -/
structure Inv (n : ℕ) (s : State Ideal) : Prop where
  q : s.main_v25_0 = A_main_v19 a0 a1 a2 a3 a5
  k : s.main_v25_1 = A_main_v20 a0 a1 a2 a3 a5
  ks : s.main_v25_2 = A_main_v21 a0 a1 a2 a3 a5
  v : s.main_v25_3 = A_main_v22 a0 a1 a2 a3 a5
  d : s.main_v25_4 = A_main_v23 a0 a1 a2 a3 a5
  st : ∀ (b : Fin 2) (h : Fin 4) (a : Fin 128) (x : Fin 256), s.main_v25_6 (ix4 b h a x) = GlaSpec.state (entry a2) (entry a3) (entry a5) b h n a x
  out : ∀ (c : Fin 256) (b : Fin 2) (h : Fin 4) (i : Fin 64) (x : Fin 256), c.val < n →
    s.main_v25_7 (ix5 c b h i x) = GlaSpec.row (entry a0) (entry a1) (entry a2) (entry a3) (entry a5) b h c i x

theorem inv_init : Inv a0 a1 a2 a3 a5 0 (init a0 a1 a2 a3 a5) where
  q := rfl
  k := rfl
  ks := rfl
  v := rfl
  d := rfl
  st := fun b h a x => by
    show K_main_v18 (F := Ideal) (ix4 b h a x) = 0
    pointwise [K_main_v18, K_main_cst]
  out := fun _ _ _ _ _ hc => absurd hc (Nat.not_lt_zero _)

variable {a0 a1 a2 a3 a5 s j}

theorem inv_row (H : Inv a0 a1 a2 a3 a5 j s) (hj : j < 256) (b : Fin 2) (h : Fin 4) (i : Fin 64) (x : Fin 256) :
    b48 j s (ix4 b h i x) = GlaSpec.row (entry a0) (entry a1) (entry a2) (entry a3) (entry a5) b h j i x := by
  rw [row_at]
  simp only [score_at, q_slice j s hj, k_slice j s hj, v_slice j s hj, H.q, H.k, H.v, q_at, k_at, v_at, H.st]
  rfl

theorem inv_state (H : Inv a0 a1 a2 a3 a5 j s) (hj : j < 256) (b : Fin 2) (h : Fin 4) (a : Fin 128) (x : Fin 256) :
    b53 j s (ix4 b h a x) = GlaSpec.state (entry a2) (entry a3) (entry a5) b h (j + 1) a x := by
  rw [state_at]
  simp only [ks_slice j s hj, v_slice j s hj, d_slice j s hj, H.ks, H.v, H.d, ks_at, v_at, d_at, H.st]
  rw [GlaSpec.state, mul_comm (entry a5 _ _)]

theorem inv_step (H : Inv a0 a1 a2 a3 a5 j s) (hj : j < 256) : Inv a0 a1 a2 a3 a5 (j + 1) (step j s) where
  q := by unfold step; exact H.q
  k := by unfold step; exact H.k
  ks := by unfold step; exact H.ks
  v := by unfold step; exact H.v
  d := by unfold step; exact H.d
  st := fun b h a x => by rw [step_main_v25_6]; exact inv_state H hj b h a x
  out := fun c b h i x hc => by
    rw [step_main_v25_7, kept_at j s hj]
    split
    · next e => rw [inv_row H hj, e]
    · exact H.out c b h i x (by omega)

variable (a0 a1 a2 a3 a5)

theorem inv_it : ∀ n, n ≤ 256 → Inv a0 a1 a2 a3 a5 n (it a0 a1 a2 a3 a5 n)
  | 0, _ => inv_init a0 a1 a2 a3 a5
  | n + 1, h => inv_step (inv_it n (by omega)) (by omega)

/-- The array the reference returns. -/
theorem result (a4 : FVec Ideal S32768x1024 .bf16) (a12 : FVec Ideal S1x256 .f32) (b : Fin 2) (p : Fin 16384) (x : Fin 1024) :
    R_main_v47 (it a0 a1 a2 a3 a5 256) a4 a12 (ix3 b p x)
      = GlaSpec.out (entry a0) (entry a1) (entry a2) (entry a3) (entry a5) (entry a4) (entry a12 0) b (x / 256) (p / 64) (p % 64) (x % 256) := by
  rw [result_at 0 _ a4 a12 b p x _ (fun e => (inv_it a0 a1 a2 a3 a5 256 le_rfl).out _ b _ _ e (by show p.val / 64 < 256; omega))]
  rw [GlaSpec.out, entry_of a12 0 (x.val % 256) 0 ⟨x.val % 256, by omega⟩ rfl rfl,
    entry_of a4 _ _ ⟨b.val * 16384 + p.val, by omega⟩ x (by simp; omega) (by omega)]

end Cert.Proof.GlaRef

end
-- ==== Proof.MixClaim.lean ====
/-
  The claim about the mixing call: the attention's outputs of the kernel and of the reference are the same array.
-/
module

public import proofs.«01_k».proof.Defs
public import proofs.«01_k».proof.Proof.MixArray
public import proofs.«01_k».proof.Proof.GlaRefValue
public import proofs.«01_k».proof.Proof.GlaRun
public import Idealize.ShloMosaic.Adequacy
public import Idealize.ShloMosaic.Init

@[expose] public section

set_option maxRecDepth 16384

noncomputable section

namespace Cert.Proof.Mix

open Idealize.ShloMosaic Idealize.ShloMosaic.TcCoe Idealize.SL.Sem Idealize.ShloMosaic.StableHlo
open Cert.MixIdeal Cert.MixIdeal.Gen

/-- What the reference returns once its scan has gone over all 256 chunks. -/
theorem reference_array (q k ks : FVec Ideal S32768x512 .bf16) (v g : FVec Ideal S32768x1024 .bf16) (d : FVec Ideal S512x512 .f32)
    (w : FVec Ideal S1x256 .f32) : Cert.GlaIdeal.Step.R_main_v47 (GlaRef.it q k ks v d 256) g w = attention q k ks v g d w := by
  funext y
  obtain ⟨b, p, x, rfl⟩ : ∃ (b : Fin 2) (p : Fin 16384) (x : Fin 1024), y = ix3 b p x := ⟨_, _, _, eq_ix3 y⟩
  exact GlaRef.result q k ks v d g w b p x

/-- The kernel's attention output and the reference's are the same function of the arguments. -/
theorem algebraic : Cert.algebraic_MixIdeal_GlaIdeal := fun m ρ m' ρ' _ hag =>
  ⟨fun c => attention (argQ m c) (argK m c) (argKS m c) (argV m c) (argG m c) (argD m c) (argW m c),
    (θ_run defs _ _).mono (fun _ h c => ⟨(h c).1.trans (value m c), (h c).2.2⟩) (Cert.MixIdeal.Value.run_blocks m ρ),
    (θ_run Cert.GlaIdeal.defs _ _).mono (fun _ h c => ⟨(h c).1.trans (by
        have e := hag c
        rw [e.1, e.2.1, e.2.2.1, e.2.2.2.1, e.2.2.2.2.1, e.2.2.2.2.2.1, e.2.2.2.2.2.2.2.2.2.2.2.2.1]
        exact reference_array _ _ _ _ _ _ _), (h c).2⟩)
      (GlaRun.run_iter (F := Ideal) m' ρ' (fun c => GlaRef.it
        (m' ((c.tc : Thread Cert.GlaIdeal.nD Cert.GlaIdeal.τ).loc Cert.GlaIdeal.main_arg0))
        (m' ((c.tc : Thread Cert.GlaIdeal.nD Cert.GlaIdeal.τ).loc Cert.GlaIdeal.main_arg1))
        (m' ((c.tc : Thread Cert.GlaIdeal.nD Cert.GlaIdeal.τ).loc Cert.GlaIdeal.main_arg2))
        (m' ((c.tc : Thread Cert.GlaIdeal.nD Cert.GlaIdeal.τ).loc Cert.GlaIdeal.main_arg3))
        (m' ((c.tc : Thread Cert.GlaIdeal.nD Cert.GlaIdeal.τ).loc Cert.GlaIdeal.main_arg5))) (fun _ => rfl) (fun _ _ => rfl))⟩

end Cert.Proof.Mix

end
-- ==== Proof.ProjRefValue.lean ====
/-
  The input projection's reference read at one token and one feature: the modulated norm (`hidden`), its product with the
  weights (`product`), and of that a group of columns as it is (`plain`) or gated by its own sigmoid (`gated`).
-/
module

public import proofs.«01_k».proof.Proof.Gen.ProjRefIdeal.Run
public import proofs.«01_k».proof.Proof.MlpRefValue

@[expose] public section

set_option maxRecDepth 16384

noncomputable section

namespace Cert.Proof.ProjRef

open Idealize.ShloMosaic Idealize.ShloMosaic.TcCoe Idealize.SL.Sem Idealize.ShloMosaic.StableHlo
open Cert.ProjRefIdeal Cert.ProjRefIdeal.Gen
open Cert.Proof.MlpRef (normRow hiddenRow)

/-- The root-mean-square norm of every token. -/
def norm (x : FVec Ideal S2x16384x1024 .f32) (pw : FVec Ideal S1x1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ pw shapeCasts_S1x1024_S1024)))

/-- The normed residual stream, scaled and shifted. -/
def hidden (x : FVec Ideal S2x16384x1024 .f32) (md : FVec Ideal S2x6144 .f32) (pw : FVec Ideal S1x1024 .f32) : FVec Ideal S2x16384x1024 .f32 :=
  addf (mulf (norm x pw) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] md slices_S2x6144_S2x1024_0_1024))))) (broadcastInDim S2x16384x1024 ![0, 1, 2] bcast_S2x1x1024_S2x16384x1024_0_1_2 (broadcastInDim S2x1x1024 ![0, 2] bcast_S2x1024_S2x1x1024_0_2 (extractStridedSlice S2x1024 ![0, 0] md slices_S2x6144_S2x1024_0_0)))

/-- The product with all the weights, a row for every token. -/
def product (x : FVec Ideal S32768x1024 .f32) (md : FVec Ideal S2x6144 .f32) (pw : FVec Ideal S1x1024 .f32) (w : FVec Ideal S1x1024x9248 .f32) : FVec Ideal S32768x9248 .f32 :=
  shapeCast _ (Host.dotGeneral dot_S2x16384x1024_S1024x9248_S2x16384x9248_2_0_01_1_n_n none (hidden (shapeCast _ x shapeCasts_S32768x1024_S2x16384x1024) md pw) (shapeCast _ w shapeCasts_S1x1024x9248_S1024x9248)) shapeCasts_S2x16384x9248_S32768x9248

/-- An array times its own sigmoid. -/
def gate (y : FVec Ideal S32768x1024 .f32) : FVec Ideal S32768x1024 .bf16 :=
  truncf .bf16 (mulf y (Host.divf (broadcastInDim S32768x1024 ![] bcast_S_S32768x1024 (constant S_ .f32 0x3F800000#32)) (addf (broadcastInDim S32768x1024 ![] bcast_S_S32768x1024 (constant S_ .f32 0x3F800000#32)) (Host.exp (Host.negf y))))) bitsLt_bf16_f32

/-- A sum times its own sigmoid. -/
def gateOf (s : EReal) : EReal := s * Ideal.div 1 (1 + Ideal.exp (-s))

/-- The product of a token's hidden row with one column of the weights. -/
def column (x pw sc sh : Fin 1024 → EReal) (w : Fin 1024 → EReal) : EReal := ∑ k, hiddenRow x pw sc sh k * w k

theorem norm_at (x : FVec Ideal S2x16384x1024 .f32) (pw : FVec Ideal S1x1024 .f32) (r : Fin 2) (p : Fin 16384) (j : Fin 1024) :
    norm x pw (ix3 r p j) = normRow (fun k => x (ix3 r p k)) (pw (ix2 0 j)) j := by
  pointwise [norm, normRow]

theorem hidden_at (x : FVec Ideal S2x16384x1024 .f32) (md : FVec Ideal S2x6144 .f32) (pw : FVec Ideal S1x1024 .f32) (r : Fin 2) (p : Fin 16384) (j : Fin 1024) :
    hidden x md pw (ix3 r p j) = hiddenRow (fun k => x (ix3 r p k)) (fun k => pw (ix2 0 k)) (fun k => md (ix2 r ⟨1024 + k.val, by omega⟩)) (fun k => md (ix2 r ⟨k.val, by omega⟩)) j := by
  rw [hiddenRow, ← norm_at]
  unfold hidden
  generalize norm x pw = n
  pointwise

theorem stream_at (x : FVec Ideal S32768x1024 .f32) (a : Fin 32768) (j : Fin 1024) (r : Fin 2) (p : Fin 16384) (h : a.val = r.val * 16384 + p.val) :
    shapeCast S2x16384x1024 x shapeCasts_S32768x1024_S2x16384x1024 (ix3 r p j) = x (ix2 a j) := by
  rw [show a = ⟨r.val * 16384 + p.val, by omega⟩ from Fin.ext h]
  pointwise

theorem product_at (x : FVec Ideal S32768x1024 .f32) (md : FVec Ideal S2x6144 .f32) (pw : FVec Ideal S1x1024 .f32) (w : FVec Ideal S1x1024x9248 .f32) (a : Fin 32768) (l : Fin 9248) :
    product x md pw w (ix2 a l) = column (fun k => x (ix2 a k)) (fun k => pw (ix2 0 k))
      (fun k => md (ix2 (⟨a.val / 16384, by omega⟩ : Fin 2) (⟨1024 + k.val, by omega⟩ : Fin 6144))) (fun k => md (ix2 (⟨a.val / 16384, by omega⟩ : Fin 2) (⟨k.val, by omega⟩ : Fin 6144))) (fun k => w (ix3 0 k l)) := by
  have hx : ∀ k, shapeCast S2x16384x1024 x shapeCasts_S32768x1024_S2x16384x1024 (ix3 (⟨a.val / 16384, by omega⟩ : Fin 2) (⟨a.val % 16384, by omega⟩ : Fin 16384) k) = x (ix2 a k) := fun k =>
    stream_at x a k _ _ (by show a.val = a.val / 16384 * 16384 + a.val % 16384; omega)
  have hh := hidden_at (shapeCast _ x shapeCasts_S32768x1024_S2x16384x1024) md pw (⟨a.val / 16384, by omega⟩ : Fin 2) (⟨a.val % 16384, by omega⟩ : Fin 16384)
  simp only [hx] at hh
  unfold column
  simp only [← hh]
  unfold product
  generalize hidden (shapeCast _ x shapeCasts_S32768x1024_S2x16384x1024) md pw = h
  pointwise

theorem gate_at (y : FVec Ideal S32768x1024 .f32) (i : S32768x1024.Idx) : gate y i = gateOf (y i) := by
  pointwise [gate, gateOf]

/-- The attention's values. -/
def vaRef (x : FVec Ideal S32768x1024 .f32) (md : FVec Ideal S2x6144 .f32) (pw : FVec Ideal S1x1024 .f32) (w : FVec Ideal S1x1024x9248 .f32) : FVec Ideal S32768x1024 .bf16 :=
  truncf .bf16 (extractStridedSlice S32768x1024 ![0, 1024] (product x md pw w) slices_S32768x9248_S32768x1024_0_1024) bitsLt_bf16_f32

theorem vaRef_at (x : FVec Ideal S32768x1024 .f32) (md : FVec Ideal S2x6144 .f32) (pw : FVec Ideal S1x1024 .f32) (w : FVec Ideal S1x1024x9248 .f32) (a : Fin 32768) (j : Fin 1024) :
    vaRef x md pw w (ix2 a j) = product x md pw w (ix2 a ⟨1024 + j.val, by omega⟩) := by
  unfold vaRef
  generalize product x md pw w = y
  pointwise

/-- The attention's output gate. -/
def gaRef (x : FVec Ideal S32768x1024 .f32) (md : FVec Ideal S2x6144 .f32) (pw : FVec Ideal S1x1024 .f32) (w : FVec Ideal S1x1024x9248 .f32) : FVec Ideal S32768x1024 .bf16 :=
  gate (extractStridedSlice S32768x1024 ![0, 2048] (product x md pw w) slices_S32768x9248_S32768x1024_0_2048)

theorem gaRef_at (x : FVec Ideal S32768x1024 .f32) (md : FVec Ideal S2x6144 .f32) (pw : FVec Ideal S1x1024 .f32) (w : FVec Ideal S1x1024x9248 .f32) (a : Fin 32768) (j : Fin 1024) :
    gaRef x md pw w (ix2 a j) = gateOf (product x md pw w (ix2 a ⟨2048 + j.val, by omega⟩)) := by
  unfold gaRef
  generalize product x md pw w = y
  rw [gate_at]
  congr 1
  pointwise

/-- The delta rule's output gate. -/
def gdRef (x : FVec Ideal S32768x1024 .f32) (md : FVec Ideal S2x6144 .f32) (pw : FVec Ideal S1x1024 .f32) (w : FVec Ideal S1x1024x9248 .f32) : FVec Ideal S32768x1024 .bf16 :=
  gate (extractStridedSlice S32768x1024 ![0, 6160] (product x md pw w) slices_S32768x9248_S32768x1024_0_6160)

theorem gdRef_at (x : FVec Ideal S32768x1024 .f32) (md : FVec Ideal S2x6144 .f32) (pw : FVec Ideal S1x1024 .f32) (w : FVec Ideal S1x1024x9248 .f32) (a : Fin 32768) (j : Fin 1024) :
    gdRef x md pw w (ix2 a j) = gateOf (product x md pw w (ix2 a ⟨6160 + j.val, by omega⟩)) := by
  unfold gdRef
  generalize product x md pw w = y
  rw [gate_at]
  congr 1
  pointwise

/-- The first merge gate. -/
def maRef (x : FVec Ideal S32768x1024 .f32) (md : FVec Ideal S2x6144 .f32) (pw : FVec Ideal S1x1024 .f32) (w : FVec Ideal S1x1024x9248 .f32) : FVec Ideal S32768x1024 .bf16 :=
  truncf .bf16 (extractStridedSlice S32768x1024 ![0, 7200] (product x md pw w) slices_S32768x9248_S32768x1024_0_7200) bitsLt_bf16_f32

theorem maRef_at (x : FVec Ideal S32768x1024 .f32) (md : FVec Ideal S2x6144 .f32) (pw : FVec Ideal S1x1024 .f32) (w : FVec Ideal S1x1024x9248 .f32) (a : Fin 32768) (j : Fin 1024) :
    maRef x md pw w (ix2 a j) = product x md pw w (ix2 a ⟨7200 + j.val, by omega⟩) := by
  unfold maRef
  generalize product x md pw w = y
  pointwise

/-- The second merge gate. -/
def mdRef (x : FVec Ideal S32768x1024 .f32) (md : FVec Ideal S2x6144 .f32) (pw : FVec Ideal S1x1024 .f32) (w : FVec Ideal S1x1024x9248 .f32) : FVec Ideal S32768x1024 .bf16 :=
  truncf .bf16 (extractStridedSlice S32768x1024 ![0, 8224] (product x md pw w) slices_S32768x9248_S32768x1024_0_8224) bitsLt_bf16_f32

theorem mdRef_at (x : FVec Ideal S32768x1024 .f32) (md : FVec Ideal S2x6144 .f32) (pw : FVec Ideal S1x1024 .f32) (w : FVec Ideal S1x1024x9248 .f32) (a : Fin 32768) (j : Fin 1024) :
    mdRef x md pw w (ix2 a j) = product x md pw w (ix2 a ⟨8224 + j.val, by omega⟩) := by
  unfold mdRef
  generalize product x md pw w = y
  pointwise

end Cert.Proof.ProjRef

end
-- ==== Proof.ProjSlab.lean ====
/-
  One stored slab of the input projection's five plain outputs: 512 rows and 512 columns of the product of the modulated norm with
  the weights, as it is or times its own sigmoid; and the block that two such slabs fill, read at a row and a column.
-/
module

public import proofs.«01_k».proof.Proof.Gen.ProjIdeal.Frame.RunA
public import proofs.«01_k».proof.Proof.ProjRefValue
public import Idealize.ShloMosaic.Lib.Pointwise
public import Idealize.ShloMosaic.Lib.Pipeline.ValueKit

@[expose] public section

set_option maxRecDepth 16384

noncomputable section

namespace Cert.Proof.Proj

open Idealize.ShloMosaic Idealize.ShloMosaic.TcCoe Idealize.SL.Sem Idealize.ShloMosaic.StableHlo
open Cert.ProjIdeal Cert.ProjIdeal.Gen
open Cert.Proof.MlpRef (normRow hiddenRow)
open Cert.Proof.ProjRef (column gateOf)

variable {F : FTy → Type} [FloatOps F]

/-- A slab of the product as it is. -/
def plain (h : FVec F S512x1024 .bf16) (w : Vec F S1024x512 .bf16) : FVec F S512x512 .bf16 := k0_pay79 h w

/-- A slab of the product times its own sigmoid. -/
def gated (h : FVec F S512x1024 .bf16) (w : Vec F S1024x512 .bf16) : FVec F S512x512 .bf16 := k0_pay53 h w

/-- The left and the right half of a block. -/
abbrev leftRect : Rect S512x1024 := Rect.unit (s := S512x1024) ![0, 0] S512x512.size inb_S512x1024_S512x512_0_0
abbrev rightRect : Rect S512x1024 := Rect.unit (s := S512x1024) ![0, 512] S512x512.size inb_S512x1024_S512x512_0_512

/-- The two stored halves of a block. -/
def halves (l r : FVec F S512x512 .bf16) : List (View.Piece (Elt F) S512x1024 .bf16) := [⟨rightRect, r⟩, ⟨leftRect, l⟩]

/-- The whole arrays the norm is made of. -/
abbrev xRect : Rect S512x1024 := Rect.unit (s := S512x1024) ![0, 0] S512x1024.size inb_S512x1024_S512x1024_0_0
abbrev mdRect : Rect S1x6x1024 := Rect.unit (s := S1x6x1024) ![0, 0, 0] S1x6x1024.size inb_S1x6x1024_S1x6x1024_0_0_0
abbrev pwRect : Rect S1x1024 := Rect.unit (s := S1x1024) ![0, 0] S1x1024.size inb_S1x1024_S1x1024_0_0

theorem hidden_at (x : Vec Ideal S512x1024 .f32) (md : Vec Ideal S1x6x1024 .f32) (pw : Vec Ideal S1x1024 .f32) (p : Fin 512) (j : Fin 1024) :
    k0_pay7 x md pw (ix2 p j) = hiddenRow (fun k => x (ix2 p k)) (fun k => pw (ix2 0 k)) (fun k => md (ix3 0 1 k)) (fun k => md (ix3 0 0 k)) j := by
  pointwise [k0_pay7, hiddenRow, normRow]

theorem plain_at (h : FVec Ideal S512x1024 .bf16) (w : Vec Ideal S1024x512 .bf16) (p : Fin 512) (j : Fin 512) : plain h w (ix2 p j) = ∑ k, h (ix2 p k) * w (ix2 k j) := by
  pointwise [plain, k0_pay79]

theorem gated_at (h : FVec Ideal S512x1024 .bf16) (w : Vec Ideal S1024x512 .bf16) (p : Fin 512) (j : Fin 512) : gated h w (ix2 p j) = gateOf (∑ k, h (ix2 p k) * w (ix2 k j)) := by
  pointwise [gated, k0_pay53, gateOf]
  rw [zero_sub]

theorem halves_at (f : Fin 512 → Fin 1024 → EReal) (l r : FVec Ideal S512x512 .bf16) (hl : ∀ (p j : Fin 512), l (ix2 p j) = f p ⟨j.val, by omega⟩)
    (hr : ∀ (p j : Fin 512), r (ix2 p j) = f p ⟨512 + j.val, by omega⟩) (p : Fin 512) (j : Fin 1024) : View.canon (halves l r) (ix2 p j) = f p j := by
  unfold halves
  canon_tiles x h
  all_goals obtain ⟨a, b, rfl⟩ : ∃ (a : Fin 512) (b : Fin 512), x = ix2 a b := ⟨_, _, eq_ix2 x⟩
  · exact (hr a b).trans (congrArg₂ f (Fin.ext h0.symm) (Fin.ext h1.symm))
  · exact (hl a b).trans (congrArg₂ f (Fin.ext h0.symm) (Fin.ext h1.symm))

end Cert.Proof.Proj

end
-- ==== Proof.ProjRunA.lean ====
/-
  What the input projection stores of its five plain outputs at a first tile of a sequence: two halves each, `plain` or `gated` of the
  modulated norm and the weights' columns.
-/
module

public import proofs.«01_k».proof.Proof.Gen.ProjIdeal.Frame.RunA
public import proofs.«01_k».proof.Proof.ProjSlab

@[expose] public section

set_option maxRecDepth 16384

noncomputable section

namespace Cert.Proof.Proj

open Idealize.ShloMosaic Idealize.ShloMosaic.TcCoe Idealize.SL.Sem
open Cert.ProjIdeal Cert.ProjIdeal.Gen

/-- The stored pieces of the five outputs. -/
theorem storedA (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.1 = halves (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 1024] S1024x512.size inb_S1024x9472_S1024x512_0_1024).toLoadRect (harg5.unread x3)))
        (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 1536] S1024x512.size inb_S1024x9472_S1024x512_0_1536).toLoadRect (harg5.unread x3)))
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.2.1 = halves (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 2048] S1024x512.size inb_S1024x9472_S1024x512_0_2048).toLoadRect (harg5.unread x3)))
        (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 2560] S1024x512.size inb_S1024x9472_S1024x512_0_2560).toLoadRect (harg5.unread x3)))
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.2.2.1 = halves (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 3072] S1024x512.size inb_S1024x9472_S1024x512_0_3072).toLoadRect (harg5.unread x3)))
        (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 3584] S1024x512.size inb_S1024x9472_S1024x512_0_3584).toLoadRect (harg5.unread x3)))
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.2.2.2.1 = halves (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 4096] S1024x512.size inb_S1024x9472_S1024x512_0_4096).toLoadRect (harg5.unread x3)))
        (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 4608] S1024x512.size inb_S1024x9472_S1024x512_0_4608).toLoadRect (harg5.unread x3)))
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.2.2.2.2.2.2.2.2.1 = halves (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 8448] S1024x512.size inb_S1024x9472_S1024x512_0_8448).toLoadRect (harg5.unread x3)))
        (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 8960] S1024x512.size inb_S1024x9472_S1024x512_0_8960).toLoadRect (harg5.unread x3))) :=
  ⟨rfl, rfl, rfl, rfl, rfl⟩

end Cert.Proof.Proj

end
-- ==== Proof.ProjBlock.lean ====
/-
  A block of a plain output that two stored halves fill, read at a row and a column: the modulated norm of the row against that column
  of the weights, as it is or times its own sigmoid.
-/
module

public import proofs.«01_k».proof.Proof.ProjSlab

@[expose] public section

set_option maxRecDepth 16384

noncomputable section

namespace Cert.Proof.Proj

open Idealize.ShloMosaic Idealize.ShloMosaic.TcCoe Idealize.SL.Sem
open Cert.ProjIdeal Cert.ProjIdeal.Gen
open Cert.Proof.ProjRef (column gateOf)

variable (x0 : Vec Ideal S512x1024 .f32) (x1 : Vec Ideal S1x6x1024 .f32) (x2 : Vec Ideal S1x1024 .f32) (x3 : Vec Ideal S1024x9472 .bf16)

/-- The modulated norm of a tile's rows, from the loaded arrays. -/
abbrev tileNorm : FVec Ideal S512x1024 .bf16 := k0_pay7 (View.ld x0 xRect) (View.ld x1 mdRect) (View.ld x2 pwRect)

/-- A row of the tile against a column of the weights. -/
def rowColumn (p : Fin 512) (l : Fin 9472) : EReal :=
  column (fun k => x0 (ix2 p k)) (fun k => x2 (ix2 0 k)) (fun k => x1 (ix3 0 1 k)) (fun k => x1 (ix3 0 0 k)) (fun k => x3 (ix2 k l))

theorem ld_x (p : Fin 512) (k : Fin 1024) : View.ld x0 xRect (ix2 p k) = x0 (ix2 p k) := View.ld_unit_apply_of _ _ _ _ _ _ (by intro a; fin_cases a <;> simp)
theorem ld_md (i : Fin 6) (k : Fin 1024) : View.ld x1 mdRect (ix3 0 i k) = x1 (ix3 0 i k) := View.ld_unit_apply_of _ _ _ _ _ _ (by intro a; fin_cases a <;> simp)
theorem ld_pw (k : Fin 1024) : View.ld x2 pwRect (ix2 0 k) = x2 (ix2 0 k) := View.ld_unit_apply_of _ _ _ _ _ _ (by intro a; fin_cases a <;> simp)

theorem ld_w (lo : ℕ) (h : ∀ a, (![0, lo] : Fin 2 → ℕ) a + S1024x512.size a ≤ S1024x9472.size a) (k : Fin 1024) (j : Fin 512) (l : Fin 9472) (hl : l.val = lo + j.val) :
    View.ld x3 (Rect.unit (s := S1024x9472) ![0, lo] S1024x512.size h) (ix2 k j) = x3 (ix2 k l) :=
  View.ld_unit_apply_of _ _ _ _ _ _ (by intro a; fin_cases a <;> simp [hl])

/-- The sum over the features, its arrays given by their entries. -/
theorem sum_read (x : Vec Ideal S512x1024 .f32) (md : Vec Ideal S1x6x1024 .f32) (pw : Vec Ideal S1x1024 .f32) (w : Vec Ideal S1024x512 .bf16) (p j : Fin 512) (X PW SC SH W : Fin 1024 → EReal)
    (hx : ∀ k, x (ix2 p k) = X k) (hpw : ∀ k, pw (ix2 0 k) = PW k) (hsc : ∀ k, md (ix3 0 1 k) = SC k) (hsh : ∀ k, md (ix3 0 0 k) = SH k) (hw : ∀ k, w (ix2 k j) = W k) :
    ∑ k, k0_pay7 x md pw (ix2 p k) * w (ix2 k j) = column X PW SC SH W := by
  simp only [hidden_at, hx, hpw, hsc, hsh, hw]
  rfl

theorem tile_sum (lo : ℕ) (h : ∀ a, (![0, lo] : Fin 2 → ℕ) a + S1024x512.size a ≤ S1024x9472.size a) (p j : Fin 512) (l : Fin 9472) (hl : l.val = lo + j.val) :
    ∑ k, tileNorm x0 x1 x2 (ix2 p k) * View.ld x3 (Rect.unit (s := S1024x9472) ![0, lo] S1024x512.size h) (ix2 k j) = rowColumn x0 x1 x2 x3 p l := by
  exact sum_read _ _ _ _ p j _ _ _ _ _ (ld_x x0 p) (ld_pw x2) (ld_md x1 1) (ld_md x1 0) fun k => ld_w x3 lo h k j l hl

theorem plain_block (lo hi : ℕ) (h : ∀ a, (![0, lo] : Fin 2 → ℕ) a + S1024x512.size a ≤ S1024x9472.size a) (h' : ∀ a, (![0, hi] : Fin 2 → ℕ) a + S1024x512.size a ≤ S1024x9472.size a) (hh : hi = lo + 512) (hb : lo + 1024 ≤ 9472) (p : Fin 512) (j : Fin 1024) :
    View.canon (halves (plain (tileNorm x0 x1 x2) (View.ld x3 (Rect.unit (s := S1024x9472) ![0, lo] S1024x512.size h))) (plain (tileNorm x0 x1 x2) (View.ld x3 (Rect.unit (s := S1024x9472) ![0, hi] S1024x512.size h')))) (ix2 p j)
      = rowColumn x0 x1 x2 x3 p ⟨lo + j.val, by omega⟩ := by
  refine halves_at (fun p j => rowColumn x0 x1 x2 x3 p ⟨lo + j.val, by omega⟩) _ _ (fun p j => ?_) (fun p j => ?_) p j
  · rw [plain_at]; exact tile_sum x0 x1 x2 x3 lo h p j _ rfl
  · rw [plain_at]; exact tile_sum x0 x1 x2 x3 hi h' p j _ (by dsimp only; omega)

theorem gated_block (lo hi : ℕ) (h : ∀ a, (![0, lo] : Fin 2 → ℕ) a + S1024x512.size a ≤ S1024x9472.size a) (h' : ∀ a, (![0, hi] : Fin 2 → ℕ) a + S1024x512.size a ≤ S1024x9472.size a) (hh : hi = lo + 512) (hb : lo + 1024 ≤ 9472) (p : Fin 512) (j : Fin 1024) :
    View.canon (halves (gated (tileNorm x0 x1 x2) (View.ld x3 (Rect.unit (s := S1024x9472) ![0, lo] S1024x512.size h))) (gated (tileNorm x0 x1 x2) (View.ld x3 (Rect.unit (s := S1024x9472) ![0, hi] S1024x512.size h')))) (ix2 p j)
      = gateOf (rowColumn x0 x1 x2 x3 p ⟨lo + j.val, by omega⟩) := by
  refine halves_at (fun p j => gateOf (rowColumn x0 x1 x2 x3 p ⟨lo + j.val, by omega⟩)) _ _ (fun p j => ?_) (fun p j => ?_) p j
  · rw [gated_at]; exact congrArg gateOf (tile_sum x0 x1 x2 x3 lo h p j _ rfl)
  · rw [gated_at]; exact congrArg gateOf (tile_sum x0 x1 x2 x3 hi h' p j _ (by dsimp only; omega))

end Cert.Proof.Proj

end
-- ==== Proof.ProjStepA.lean ====
/-
  The blocks of the five plain outputs after a first tile of a sequence, read at a row and a column.
-/
module

public import proofs.«01_k».proof.Proof.Gen.ProjIdeal.Frame
public import proofs.«01_k».proof.Proof.ProjRunA
public import proofs.«01_k».proof.Proof.ProjBlock

@[expose] public section

set_option maxRecDepth 16384

noncomputable section

namespace Cert.Proof.Proj

open Idealize.ShloMosaic Idealize.ShloMosaic.TcCoe Idealize.SL.Sem
open Cert.ProjIdeal Cert.ProjIdeal.Gen
open Cert.Proof.ProjRef (gateOf)

theorem vaA (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (p : Fin 512) (j : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 (ix2 p j) = rowColumn x0 x1 x2 x3 p ⟨1024 + j.val, by omega⟩ := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9),
    (storedA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).1]
  simp only [View.readAt_eq_ld, harg2.read_unread, harg3.read_unread, harg4.read_unread, harg5.read_unread]
  exact plain_block x0 x1 x2 x3 1024 1536 _ _ rfl (by omega) p j

theorem gaA (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (p : Fin 512) (j : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 (ix2 p j) = gateOf (rowColumn x0 x1 x2 x3 p ⟨2048 + j.val, by omega⟩) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9),
    (storedA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.1]
  simp only [View.readAt_eq_ld, harg2.read_unread, harg3.read_unread, harg4.read_unread, harg5.read_unread]
  exact gated_block x0 x1 x2 x3 2048 2560 _ _ rfl (by omega) p j

theorem maA (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (p : Fin 512) (j : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 (ix2 p j) = rowColumn x0 x1 x2 x3 p ⟨3072 + j.val, by omega⟩ := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9),
    (storedA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.1]
  simp only [View.readAt_eq_ld, harg2.read_unread, harg3.read_unread, harg4.read_unread, harg5.read_unread]
  exact plain_block x0 x1 x2 x3 3072 3584 _ _ rfl (by omega) p j

theorem mdA (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (p : Fin 512) (j : Fin 1024) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 (ix2 p j) = rowColumn x0 x1 x2 x3 p ⟨4096 + j.val, by omega⟩ := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9),
    (storedA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.1]
  simp only [View.readAt_eq_ld, harg2.read_unread, harg3.read_unread, harg4.read_unread, harg5.read_unread]
  exact plain_block x0 x1 x2 x3 4096 4608 _ _ rfl (by omega) p j

theorem gdA (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (p : Fin 512) (j : Fin 1024) :
    out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 (ix2 p j) = gateOf (rowColumn x0 x1 x2 x3 p ⟨8448 + j.val, by omega⟩) := by
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9),
    (storedA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9).2.2.2.2]
  simp only [View.readAt_eq_ld, harg2.read_unread, harg3.read_unread, harg4.read_unread, harg5.read_unread]
  exact gated_block x0 x1 x2 x3 8448 8960 _ _ rfl (by omega) p j

end Cert.Proof.Proj

end
-- ==== Proof.ProjRunB.lean ====
/-
  What the input projection stores of its five plain outputs at a later tile of a sequence: two halves each, `plain` or `gated` of the
  modulated norm and the weights' columns.
-/
module

public import proofs.«01_k».proof.Proof.Gen.ProjIdeal.Frame.RunB
public import proofs.«01_k».proof.Proof.ProjSlab

@[expose] public section

set_option maxRecDepth 16384

noncomputable section

namespace Cert.Proof.Proj

open Idealize.ShloMosaic Idealize.ShloMosaic.TcCoe Idealize.SL.Sem
open Cert.ProjIdeal Cert.ProjIdeal.Gen

/-- The stored pieces of the five outputs. -/
theorem storedB (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : ¬cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (xs0 : Vec Ideal S8x3072 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.1 = halves (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 1024] S1024x512.size inb_S1024x9472_S1024x512_0_1024).toLoadRect (harg5.unread x3)))
        (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 1536] S1024x512.size inb_S1024x9472_S1024x512_0_1536).toLoadRect (harg5.unread x3)))
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.2.1 = halves (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 2048] S1024x512.size inb_S1024x9472_S1024x512_0_2048).toLoadRect (harg5.unread x3)))
        (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 2560] S1024x512.size inb_S1024x9472_S1024x512_0_2560).toLoadRect (harg5.unread x3)))
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.2.2.1 = halves (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 3072] S1024x512.size inb_S1024x9472_S1024x512_0_3072).toLoadRect (harg5.unread x3)))
        (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 3584] S1024x512.size inb_S1024x9472_S1024x512_0_3584).toLoadRect (harg5.unread x3)))
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.2.2.2.1 = halves (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 4096] S1024x512.size inb_S1024x9472_S1024x512_0_4096).toLoadRect (harg5.unread x3)))
        (plain (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 4608] S1024x512.size inb_S1024x9472_S1024x512_0_4608).toLoadRect (harg5.unread x3)))
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.2.2.2.2.2.2.2.2.1 = halves (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 8448] S1024x512.size inb_S1024x9472_S1024x512_0_8448).toLoadRect (harg5.unread x3)))
        (gated (k0_pay7 (arg2.view.readAt (Elt Ideal) (xRect).toLoadRect (harg2.unread x0)) (arg3.view.readAt (Elt Ideal) (mdRect).toLoadRect (harg3.unread x1)) (arg4.view.readAt (Elt Ideal) (pwRect).toLoadRect (harg4.unread x2))) (arg5.view.readAt (Elt Ideal) (Rect.unit (s := S1024x9472) ![0, 8960] S1024x512.size inb_S1024x9472_S1024x512_0_8960).toLoadRect (harg5.unread x3))) :=
  ⟨rfl, rfl, rfl, rfl, rfl⟩

end Cert.Proof.Proj

end
-- ==== Proof.ProjStepB.lean ====
/-
  The blocks of the five plain outputs after a later tile of a sequence, read at a row and a column.
-/
module

public import proofs.«01_k».proof.Proof.Gen.ProjIdeal.Frame
public import proofs.«01_k».proof.Proof.ProjRunB
public import proofs.«01_k».proof.Proof.ProjBlock

@[expose] public section

set_option maxRecDepth 16384

noncomputable section

namespace Cert.Proof.Proj

open Idealize.ShloMosaic Idealize.ShloMosaic.TcCoe Idealize.SL.Sem
open Cert.ProjIdeal Cert.ProjIdeal.Gen
open Cert.Proof.ProjRef (gateOf)

theorem vaB (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : ¬cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (xs0 : Vec Ideal S8x3072 .f32) (p : Fin 512) (j : Fin 1024) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0 (ix2 p j) = rowColumn x0 x1 x2 x3 p ⟨1024 + j.val, by omega⟩ := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0),
    (storedB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).1]
  simp only [View.readAt_eq_ld, harg2.read_unread, harg3.read_unread, harg4.read_unread, harg5.read_unread]
  exact plain_block x0 x1 x2 x3 1024 1536 _ _ rfl (by omega) p j

theorem gaB (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : ¬cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (xs0 : Vec Ideal S8x3072 .f32) (p : Fin 512) (j : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0 (ix2 p j) = gateOf (rowColumn x0 x1 x2 x3 p ⟨2048 + j.val, by omega⟩) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0),
    (storedB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.1]
  simp only [View.readAt_eq_ld, harg2.read_unread, harg3.read_unread, harg4.read_unread, harg5.read_unread]
  exact gated_block x0 x1 x2 x3 2048 2560 _ _ rfl (by omega) p j

theorem maB (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : ¬cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (xs0 : Vec Ideal S8x3072 .f32) (p : Fin 512) (j : Fin 1024) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0 (ix2 p j) = rowColumn x0 x1 x2 x3 p ⟨3072 + j.val, by omega⟩ := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0),
    (storedB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.1]
  simp only [View.readAt_eq_ld, harg2.read_unread, harg3.read_unread, harg4.read_unread, harg5.read_unread]
  exact plain_block x0 x1 x2 x3 3072 3584 _ _ rfl (by omega) p j

theorem mdB (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : ¬cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (xs0 : Vec Ideal S8x3072 .f32) (p : Fin 512) (j : Fin 1024) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0 (ix2 p j) = rowColumn x0 x1 x2 x3 p ⟨4096 + j.val, by omega⟩ := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0),
    (storedB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.1]
  simp only [View.readAt_eq_ld, harg2.read_unread, harg3.read_unread, harg4.read_unread, harg5.read_unread]
  exact plain_block x0 x1 x2 x3 4096 4608 _ _ rfl (by omega) p j

theorem gdB (c : Dev nD) (i : grid0.Coords) (arg2 : Memref sig .tc .vmem S512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x9472 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S128x512 .f32) (harg25 : arg25.IsWhole) (arg26 : Memref sig .tc .vmem S8x3072 .f32) (harg26 : arg26.IsWhole) (hc0 : ¬cond0_0 i)
        (x0 : Vec Ideal S512x1024 .f32) (x1 : Vec Ideal S1x6x1024 .f32) (x2 : Vec Ideal S1x1024 .f32) (x3 : Vec Ideal S1024x9472 .bf16) (x4 : Vec Ideal S128x512 .bf16) (x5 : Vec Ideal S1x512 .f32) (x6 : Vec Ideal S4x3072 .f32) (x7 : Vec Ideal S1x128 .f32) (x8 : Vec Ideal S1x128 .f32) (x9 : Vec Ideal S128x256 .bf16) (xs0 : Vec Ideal S8x3072 .f32) (p : Fin 512) (j : Fin 1024) :
    out0_B_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0 (ix2 p j) = gateOf (rowColumn x0 x1 x2 x3 p ⟨8448 + j.val, by omega⟩) := by
  unfold out0_B_21
  rw [View.read_writes_eq_canon _ _ _ (cover0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0),
    (storedB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xs0).2.2.2.2]
  simp only [View.readAt_eq_ld, harg2.read_unread, harg3.read_unread, harg4.read_unread, harg5.read_unread]
  exact gated_block x0 x1 x2 x3 8448 8960 _ _ rfl (by omega) p j

end Cert.Proof.Proj

end
-- ==== Proof.ProjInput.lean ====
/-
  What the input projection's windows show of the arguments: the rows of the residual stream, the two modulation vectors, the norm's
  weights, and the columns of the weights that the launch lays out anew.
-/
module

public import proofs.«01_k».proof.Proof.ProjSlab

@[expose] public section

set_option maxRecDepth 16384

noncomputable section

namespace Cert.Proof.Proj

open Idealize.ShloMosaic Idealize.ShloMosaic.TcCoe Idealize.SL.Sem Idealize.ShloMosaic.StableHlo
open Cert.ProjIdeal Cert.ProjIdeal.Gen

variable (m : (ℓ : Loc nD τ sig) → Buf (Elt Ideal) ℓ)

/-- The block every window reads or writes at a grid point. -/
theorem idx : ∀ t : Fin grid0.N, win0_0.index t = ![t.val, 0] ∧ win0_1.index t = ![t.val / 32, 0, 0] ∧ win0_2.index t = ![0, 0] ∧ win0_3.index t = ![0, 0]
    ∧ win0_13.index t = ![t.val, 0] ∧ win0_14.index t = ![t.val, 0] ∧ win0_15.index t = ![t.val, 0] ∧ win0_16.index t = ![t.val, 0] ∧ win0_21.index t = ![t.val, 0] := by
  decide +kernel

set_option maxHeartbeats 2000000 in
/-- The modulation as the region finds it. -/
theorem found_md (c : Dev nD) : V m c main_v9 = shapeCast S2x6x1024 (m ((c.tc : Thread nD τ).loc main_arg1)) shapeCasts_S2x6144_S2x6x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.unary, TRef.binary, TRef.nullary, TRef.ternary, TRef.toBuf, TRef.ofBuf, cast_eq]
  after_results_simp <;> rfl

set_option maxHeartbeats 2000000 in
/-- The norm's weights as the region finds them. -/
theorem found_pw (c : Dev nD) : V m c main_v44 = shapeCast S1x1024 (shapeCast S1024 (m ((c.tc : Thread nD τ).loc main_arg2)) shapeCasts_S1x1024_S1024) shapeCasts_S1024_S1x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.unary, TRef.binary, TRef.nullary, TRef.ternary, TRef.toBuf, TRef.ofBuf, cast_eq]
  after_results_simp <;> rfl

/-- The weights laid out anew: ten groups of columns one behind another, two of them (`lr`, `sm`) padded. -/
def layout (w : FVec Ideal S1x1024x9248 .f32) (lr sm : FVec Ideal S1024x128 .f32) : FVec Ideal S1024x9472 .bf16 :=
  let v := shapeCast S1024x9248 w shapeCasts_S1x1024x9248_S1024x9248
  truncf .bf16 (concatenate S1024x9472 1
    [⟨S1024x512, extractStridedSlice S1024x512 ![0, 0] v slices_S1024x9248_S1024x512_0_0⟩,
     ⟨S1024x512, extractStridedSlice S1024x512 ![0, 512] v slices_S1024x9248_S1024x512_0_512⟩,
     ⟨S1024x1024, extractStridedSlice S1024x1024 ![0, 1024] v slices_S1024x9248_S1024x1024_0_1024⟩,
     ⟨S1024x1024, extractStridedSlice S1024x1024 ![0, 2048] v slices_S1024x9248_S1024x1024_0_2048⟩,
     ⟨S1024x1024, extractStridedSlice S1024x1024 ![0, 7200] v slices_S1024x9248_S1024x1024_0_7200⟩,
     ⟨S1024x1024, extractStridedSlice S1024x1024 ![0, 8224] v slices_S1024x9248_S1024x1024_0_8224⟩,
     ⟨S1024x128, lr⟩, ⟨S1024x128, sm⟩,
     ⟨S1024x3072, extractStridedSlice S1024x3072 ![0, 3088] v slices_S1024x9248_S1024x3072_0_3088⟩,
     ⟨S1024x1024, extractStridedSlice S1024x1024 ![0, 6160] v slices_S1024x9248_S1024x1024_0_6160⟩]
    concatenates_S1024x512_S1024x512_S1024x1024_S1024x1024_S1024x1024_S1024x1024_S1024x128_S1024x128_S1024x3072_S1024x1024_S1024x9472_d1) bitsLt_bf16_f32

set_option maxHeartbeats 2000000 in
/-- The weights as the region finds them. -/
theorem found_w (c : Dev nD) : V m c main_v26 = layout (m ((c.tc : Thread nD τ).loc main_arg3)) (V m c main_v22) (V m c main_v24) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.unary, TRef.binary, TRef.nullary, TRef.ternary, TRef.toBuf, TRef.ofBuf, cast_eq]
  after_results_simp <;> rfl

theorem layout_va (w : FVec Ideal S1x1024x9248 .f32) (lr sm : FVec Ideal S1024x128 .f32) (x j : Fin 1024) :
    layout w lr sm (ix2 x ⟨1024 + j.val, by omega⟩) = w (ix3 0 x ⟨1024 + j.val, by omega⟩) := by
  pointwise [layout]
  rw [dif_neg (by omega), dif_neg (by omega), dif_pos (by omega)]
  exact congrArg (fun i => w (ix3 0 x i)) (Fin.ext (by dsimp only; omega))

theorem layout_ga (w : FVec Ideal S1x1024x9248 .f32) (lr sm : FVec Ideal S1024x128 .f32) (x j : Fin 1024) :
    layout w lr sm (ix2 x ⟨2048 + j.val, by omega⟩) = w (ix3 0 x ⟨2048 + j.val, by omega⟩) := by
  pointwise [layout]
  rw [dif_neg (by omega), dif_neg (by omega), dif_neg (by omega), dif_pos (by omega)]
  exact congrArg (fun i => w (ix3 0 x i)) (Fin.ext (by dsimp only; omega))

theorem layout_ma (w : FVec Ideal S1x1024x9248 .f32) (lr sm : FVec Ideal S1024x128 .f32) (x j : Fin 1024) :
    layout w lr sm (ix2 x ⟨3072 + j.val, by omega⟩) = w (ix3 0 x ⟨7200 + j.val, by omega⟩) := by
  pointwise [layout]
  rw [dif_neg (by omega), dif_neg (by omega), dif_neg (by omega), dif_neg (by omega), dif_pos (by omega)]
  exact congrArg (fun i => w (ix3 0 x i)) (Fin.ext (by dsimp only; omega))

theorem layout_md (w : FVec Ideal S1x1024x9248 .f32) (lr sm : FVec Ideal S1024x128 .f32) (x j : Fin 1024) :
    layout w lr sm (ix2 x ⟨4096 + j.val, by omega⟩) = w (ix3 0 x ⟨8224 + j.val, by omega⟩) := by
  pointwise [layout]
  rw [dif_neg (by omega), dif_neg (by omega), dif_neg (by omega), dif_neg (by omega), dif_neg (by omega), dif_pos (by omega)]
  exact congrArg (fun i => w (ix3 0 x i)) (Fin.ext (by dsimp only; omega))

theorem layout_gd (w : FVec Ideal S1x1024x9248 .f32) (lr sm : FVec Ideal S1024x128 .f32) (x j : Fin 1024) :
    layout w lr sm (ix2 x ⟨8448 + j.val, by omega⟩) = w (ix3 0 x ⟨6160 + j.val, by omega⟩) := by
  pointwise [layout]
  rw [dif_neg (by omega), dif_neg (by omega), dif_neg (by omega), dif_neg (by omega), dif_neg (by omega), dif_neg (by omega), dif_neg (by omega), dif_neg (by omega), dif_neg (by omega)]
  exact congrArg (fun i => w (ix3 0 x i)) (Fin.ext (by dsimp only; omega))

theorem x_at (c : Dev nD) (t : Fin cfg0.N) (p : Fin 512) (k : Fin 1024) (a : Fin 32768) (ha : a.val = t.val * 512 + p.val) : iblk m c 0 t (ix2 p k) = m ((c.tc : Thread nD τ).loc main_arg0) (ix2 a k) := by
  blk_point [iblk, V, idx t, ha]

theorem md_at (c : Dev nD) (t : Fin cfg0.N) (i : Fin 6) (k : Fin 1024) (r : Fin 2) (l : Fin 6144) (hr : r.val = t.val / 32) (hl : l.val = i.val * 1024 + k.val) : iblk m c 1 t (ix3 0 i k) = m ((c.tc : Thread nD τ).loc main_arg1) (ix2 r l) := by
  have e : (win0_1.blk t).view.emb (ix3 0 i k) = ix3 r i k := by blk_ext [idx t, hr]
  refine ((congrFun (found_md m c) _).trans (congrArg _ e)).trans ?_
  generalize m ((c.tc : Thread nD τ).loc main_arg1) = y
  pointwise
  exact congrArg (fun l => y (ix2 r l)) (Fin.ext hl.symm)

theorem pw_at (c : Dev nD) (t : Fin cfg0.N) (k : Fin 1024) : iblk m c 2 t (ix2 0 k) = m ((c.tc : Thread nD τ).loc main_arg2) (ix2 0 k) := by
  have e : (win0_2.blk t).view.emb (ix2 0 k) = ix2 0 k := by blk_ext [idx t]
  refine ((congrFun (found_pw m c) _).trans (congrArg _ e)).trans ?_
  generalize m ((c.tc : Thread nD τ).loc main_arg2) = y
  pointwise

theorem w_at (c : Dev nD) (t : Fin cfg0.N) (x : Fin 1024) (l : Fin 9472) : iblk m c 3 t (ix2 x l) = layout (m ((c.tc : Thread nD τ).loc main_arg3)) (V m c main_v22) (V m c main_v24) (ix2 x l) := by
  have e : (win0_3.blk t).view.emb (ix2 x l) = ix2 x l := by blk_ext [idx t]
  exact (congrFun (found_w m c) _).trans (congrArg _ e)

end Cert.Proof.Proj

end
-- ==== Proof.ProjGrid.lean ====
/-
  What a grid point leaves in the blocks of the five plain outputs, over the blocks the windows show it.
-/
module

public import proofs.«01_k».proof.Proof.ProjStepA
public import proofs.«01_k».proof.Proof.ProjStepB
public import proofs.«01_k».proof.Proof.ProjInput

@[expose] public section

set_option maxRecDepth 16384

noncomputable section

namespace Cert.Proof.Proj

open Idealize.ShloMosaic Idealize.ShloMosaic.TcCoe Idealize.SL.Sem Idealize.ShloMosaic.StableHlo
open Cert.ProjIdeal Cert.ProjIdeal.Gen
open Cert.Proof.ProjRef (column gateOf product product_at)

variable (m : (ℓ : Loc nD τ sig) → Buf (Elt Ideal) ℓ)

/-- A row of a grid point's tile against a column of the weights. -/
abbrev atPoint (c : Dev nD) (t : Fin cfg0.N) (p : Fin 512) (l : Fin 9472) : EReal := rowColumn (iblk m c 0 t) (iblk m c 1 t) (iblk m c 2 t) (iblk m c 3 t) p l

set_option maxHeartbeats 2000000 in
theorem written_va (c : Dev nD) (t : Fin cfg0.N) (p : Fin 512) (j : Fin 1024) : (outsAt0 m c t.val t.isLt).2.2.2.1 (ix2 p j) = atPoint m c t p ⟨1024 + j.val, by omega⟩ := by
  by_cases h0 : t.val % 32 = 0
  · exact (congrArg (fun r => r.2.2.2.1 (ix2 p j)) (outsAt0_A m c t h0)).trans (vaA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) p j)
  · exact (congrArg (fun r => r.2.2.2.1 (ix2 p j)) (outsAt0_B m c t h0)).trans (vaB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.2.2.2.2.2.2.2 p j)

set_option maxHeartbeats 2000000 in
theorem written_ga (c : Dev nD) (t : Fin cfg0.N) (p : Fin 512) (j : Fin 1024) : (outsAt0 m c t.val t.isLt).2.2.2.2.1 (ix2 p j) = gateOf (atPoint m c t p ⟨2048 + j.val, by omega⟩) := by
  by_cases h0 : t.val % 32 = 0
  · exact (congrArg (fun r => r.2.2.2.2.1 (ix2 p j)) (outsAt0_A m c t h0)).trans (gaA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) p j)
  · exact (congrArg (fun r => r.2.2.2.2.1 (ix2 p j)) (outsAt0_B m c t h0)).trans (gaB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.2.2.2.2.2.2.2 p j)

set_option maxHeartbeats 2000000 in
theorem written_ma (c : Dev nD) (t : Fin cfg0.N) (p : Fin 512) (j : Fin 1024) : (outsAt0 m c t.val t.isLt).2.2.2.2.2.1 (ix2 p j) = atPoint m c t p ⟨3072 + j.val, by omega⟩ := by
  by_cases h0 : t.val % 32 = 0
  · exact (congrArg (fun r => r.2.2.2.2.2.1 (ix2 p j)) (outsAt0_A m c t h0)).trans (maA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) p j)
  · exact (congrArg (fun r => r.2.2.2.2.2.1 (ix2 p j)) (outsAt0_B m c t h0)).trans (maB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.2.2.2.2.2.2.2 p j)

set_option maxHeartbeats 2000000 in
theorem written_md (c : Dev nD) (t : Fin cfg0.N) (p : Fin 512) (j : Fin 1024) : (outsAt0 m c t.val t.isLt).2.2.2.2.2.2.1 (ix2 p j) = atPoint m c t p ⟨4096 + j.val, by omega⟩ := by
  by_cases h0 : t.val % 32 = 0
  · exact (congrArg (fun r => r.2.2.2.2.2.2.1 (ix2 p j)) (outsAt0_A m c t h0)).trans (mdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) p j)
  · exact (congrArg (fun r => r.2.2.2.2.2.2.1 (ix2 p j)) (outsAt0_B m c t h0)).trans (mdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.2.2.2.2.2.2.2 p j)

set_option maxHeartbeats 2000000 in
theorem written_gd (c : Dev nD) (t : Fin cfg0.N) (p : Fin 512) (j : Fin 1024) : (outsAt0 m c t.val t.isLt).2.2.2.2.2.2.2.2.2.2.2.1 (ix2 p j) = gateOf (atPoint m c t p ⟨8448 + j.val, by omega⟩) := by
  by_cases h0 : t.val % 32 = 0
  · exact (congrArg (fun r => r.2.2.2.2.2.2.2.2.2.2.2.1 (ix2 p j)) (outsAt0_A m c t h0)).trans (gdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) p j)
  · exact (congrArg (fun r => r.2.2.2.2.2.2.2.2.2.2.2.1 (ix2 p j)) (outsAt0_B m c t h0)).trans (gdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.2.2.2.2.2.2.2 p j)

end Cert.Proof.Proj

end
-- ==== Proof.ProjValue.lean ====
/-
  The arrays that the input projection returns: the reference's terms of the same arguments.
-/
module

public import proofs.«01_k».proof.Proof.ProjGrid

@[expose] public section

set_option maxRecDepth 16384

noncomputable section

namespace Cert.Proof.Proj

open Idealize.ShloMosaic Idealize.ShloMosaic.TcCoe Idealize.SL.Sem Idealize.ShloMosaic.StableHlo
open Cert.ProjIdeal Cert.ProjIdeal.Gen
open Cert.Proof.ProjRef (column gateOf product product_at)

variable (m : (ℓ : Loc nD τ sig) → Buf (Elt Ideal) ℓ)

/-- A row of a grid point's tile against a column of the weights, in the arguments. -/
theorem atPoint_eq (c : Dev nD) (t : Fin cfg0.N) (p : Fin 512) (a : Fin 32768) (ha : a.val = t.val * 512 + p.val) (l : Fin 9472) (l' : Fin 9248)
    (hw : ∀ x : Fin 1024, layout (m ((c.tc : Thread nD τ).loc main_arg3)) (V m c main_v22) (V m c main_v24) (ix2 x l) = (m ((c.tc : Thread nD τ).loc main_arg3)) (ix3 0 x l')) :
    atPoint m c t p l = product (m ((c.tc : Thread nD τ).loc main_arg0)) (m ((c.tc : Thread nD τ).loc main_arg1)) (m ((c.tc : Thread nD τ).loc main_arg2)) (m ((c.tc : Thread nD τ).loc main_arg3)) (ix2 a l') := by
  have hr : (⟨a.val / 16384, by omega⟩ : Fin 2).val = t.val / 32 := by
    show a.val / 16384 = t.val / 32
    omega
  rw [product_at]
  have e0 : (fun k : Fin 1024 => iblk m c 0 t (ix2 p k)) = _ := funext fun k => x_at m c t p k a ha
  have e1 : (fun k : Fin 1024 => iblk m c 2 t (ix2 0 k)) = _ := funext fun k => pw_at m c t k
  have e2 : (fun k : Fin 1024 => iblk m c 1 t (ix3 0 1 k)) = _ := funext fun k => md_at m c t 1 k _ ⟨1024 + k.val, by omega⟩ hr rfl
  have e3 : (fun k : Fin 1024 => iblk m c 1 t (ix3 0 0 k)) = _ := funext fun k => md_at m c t 0 k _ ⟨k.val, by omega⟩ hr (by simp)
  have e4 : (fun k : Fin 1024 => iblk m c 3 t (ix2 k l)) = _ := funext fun k => (w_at m c t k l).trans (hw k)
  unfold atPoint rowColumn
  rw [e0, e1, e2, e3, e4]

/-- Row `p` of grid point `t`'s tile. -/
abbrev rowOf (t : Fin cfg0.N) (p : Fin 512) : Fin 32768 := ⟨t.val * 512 + p.val, by have := t.isLt; change _ < 64 at this; omega⟩

/-- The whole array of the attention's values. -/
theorem value_va (c : Dev nD) : (dats m 0 c).arrAt 13 cfg0.N = Cert.Proof.ProjRef.vaRef (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 13 _ (by decide +kernel) fun t hf y => ?_
  show (dats m 0 c).after 13 t _ = _
  rw [after0_13]
  obtain ⟨p, j, rfl⟩ : ∃ (p : Fin 512) (j : Fin 1024), y = ix2 p j := ⟨_, _, eq_ix2 y⟩
  have e : (win0_13.blk t).view.emb (ix2 p j) = ix2 (rowOf t p) j := by blk_ext [idx t]
  refine (written_va m c t p j).trans (Eq.trans ?_ ((Cert.Proof.ProjRef.vaRef_at _ _ _ _ (rowOf t p) j).symm.trans (congrArg _ e.symm)))
  exact atPoint_eq m c t p (rowOf t p) rfl _ ⟨1024 + j.val, by omega⟩ (fun x => layout_va _ _ _ x j)

/-- The whole array of the attention's output gate. -/
theorem value_ga (c : Dev nD) : (dats m 0 c).arrAt 14 cfg0.N = Cert.Proof.ProjRef.gaRef (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 14 _ (by decide +kernel) fun t hf y => ?_
  show (dats m 0 c).after 14 t _ = _
  rw [after0_14]
  obtain ⟨p, j, rfl⟩ : ∃ (p : Fin 512) (j : Fin 1024), y = ix2 p j := ⟨_, _, eq_ix2 y⟩
  have e : (win0_14.blk t).view.emb (ix2 p j) = ix2 (rowOf t p) j := by blk_ext [idx t]
  refine (written_ga m c t p j).trans (Eq.trans ?_ ((Cert.Proof.ProjRef.gaRef_at _ _ _ _ (rowOf t p) j).symm.trans (congrArg _ e.symm)))
  exact congrArg gateOf (atPoint_eq m c t p (rowOf t p) rfl _ ⟨2048 + j.val, by omega⟩ (fun x => layout_ga _ _ _ x j))

/-- The whole array of the first merge gate. -/
theorem value_ma (c : Dev nD) : (dats m 0 c).arrAt 15 cfg0.N = Cert.Proof.ProjRef.maRef (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 15 _ (by decide +kernel) fun t hf y => ?_
  show (dats m 0 c).after 15 t _ = _
  rw [after0_15]
  obtain ⟨p, j, rfl⟩ : ∃ (p : Fin 512) (j : Fin 1024), y = ix2 p j := ⟨_, _, eq_ix2 y⟩
  have e : (win0_15.blk t).view.emb (ix2 p j) = ix2 (rowOf t p) j := by blk_ext [idx t]
  refine (written_ma m c t p j).trans (Eq.trans ?_ ((Cert.Proof.ProjRef.maRef_at _ _ _ _ (rowOf t p) j).symm.trans (congrArg _ e.symm)))
  exact atPoint_eq m c t p (rowOf t p) rfl _ ⟨7200 + j.val, by omega⟩ (fun x => layout_ma _ _ _ x j)

/-- The whole array of the second merge gate. -/
theorem value_md (c : Dev nD) : (dats m 0 c).arrAt 16 cfg0.N = Cert.Proof.ProjRef.mdRef (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 16 _ (by decide +kernel) fun t hf y => ?_
  show (dats m 0 c).after 16 t _ = _
  rw [after0_16]
  obtain ⟨p, j, rfl⟩ : ∃ (p : Fin 512) (j : Fin 1024), y = ix2 p j := ⟨_, _, eq_ix2 y⟩
  have e : (win0_16.blk t).view.emb (ix2 p j) = ix2 (rowOf t p) j := by blk_ext [idx t]
  refine (written_md m c t p j).trans (Eq.trans ?_ ((Cert.Proof.ProjRef.mdRef_at _ _ _ _ (rowOf t p) j).symm.trans (congrArg _ e.symm)))
  exact atPoint_eq m c t p (rowOf t p) rfl _ ⟨8224 + j.val, by omega⟩ (fun x => layout_md _ _ _ x j)

/-- The whole array of the delta rule's output gate. -/
theorem value_gd (c : Dev nD) : (dats m 0 c).arrAt 21 cfg0.N = Cert.Proof.ProjRef.gdRef (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 21 _ (by decide +kernel) fun t hf y => ?_
  show (dats m 0 c).after 21 t _ = _
  rw [after0_21]
  obtain ⟨p, j, rfl⟩ : ∃ (p : Fin 512) (j : Fin 1024), y = ix2 p j := ⟨_, _, eq_ix2 y⟩
  have e : (win0_21.blk t).view.emb (ix2 p j) = ix2 (rowOf t p) j := by blk_ext [idx t]
  refine (written_gd m c t p j).trans (Eq.trans ?_ ((Cert.Proof.ProjRef.gdRef_at _ _ _ _ (rowOf t p) j).symm.trans (congrArg _ e.symm)))
  exact congrArg gateOf (atPoint_eq m c t p (rowOf t p) rfl _ ⟨6160 + j.val, by omega⟩ (fun x => layout_gd _ _ _ x j))

end Cert.Proof.Proj

end
-- ==== Proof.ProjClaim.lean ====
/-
  The claims about the input projection that are not generated: its reference's frame, and the five pairs of results equal.
-/
module

public import proofs.«01_k».proof.Defs
public import proofs.«01_k».proof.Proof.Gen.ProjIdeal.Value
public import proofs.«01_k».proof.Proof.Gen.ProjRefIdeal.Run
public import proofs.«01_k».proof.Proof.ProjValue
public import Idealize.ShloMosaic.Adequacy
public import Idealize.ShloMosaic.Init

@[expose] public section

set_option maxRecDepth 16384

noncomputable section

namespace Cert.Proof.Proj

open Idealize.ShloMosaic Idealize.ShloMosaic.TcCoe Idealize.SL.Sem
open Cert.ProjIdeal Cert.ProjIdeal.Gen

/-- The reference's run leaves its arguments and, having no semaphore, every counter at zero. -/
theorem frame_reference : Cert.quiescent_ProjRefIdeal := fun m ρ _ =>
  (θ_run Cert.ProjRefIdeal.defs _ _).mono (fun r h => ⟨fun c => (h c).2.2.2.2.2, sem_eq_zero_of_no_sems (by decide) r.2⟩) (Cert.ProjRefIdeal.Value.run (F := Ideal) m ρ)

/-- The five results of the reference's run are the named terms. -/
theorem reference_run (m : (ℓ : Loc Cert.ProjRefIdeal.nD Cert.ProjRefIdeal.τ Cert.ProjRefIdeal.sig) → Buf (Elt Ideal) ℓ) (ρ : Dev Cert.ProjRefIdeal.nD → PrngReg) :
    θ_run (Cert.ProjRefIdeal.defs (F := Ideal)) (onTc (τ := Cert.ProjRefIdeal.τ) (Cert.ProjRefIdeal.main (F := Ideal))) ⟨m, fun _ => 0, ρ⟩ fun r => ∀ c : Dev Cert.ProjRefIdeal.nD,
      (r.2.mem ((c.tc : Thread Cert.ProjRefIdeal.nD Cert.ProjRefIdeal.τ).loc Cert.ProjRefIdeal.main_v49) = Cert.Proof.ProjRef.vaRef (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))
      ∧ r.2.mem ((c.tc : Thread Cert.ProjRefIdeal.nD Cert.ProjRefIdeal.τ).loc Cert.ProjRefIdeal.main_v50) = Cert.Proof.ProjRef.gaRef (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))
      ∧ r.2.mem ((c.tc : Thread Cert.ProjRefIdeal.nD Cert.ProjRefIdeal.τ).loc Cert.ProjRefIdeal.main_v51) = Cert.Proof.ProjRef.gdRef (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))
      ∧ r.2.mem ((c.tc : Thread Cert.ProjRefIdeal.nD Cert.ProjRefIdeal.τ).loc Cert.ProjRefIdeal.main_v52) = Cert.Proof.ProjRef.maRef (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))
      ∧ r.2.mem ((c.tc : Thread Cert.ProjRefIdeal.nD Cert.ProjRefIdeal.τ).loc Cert.ProjRefIdeal.main_v53) = Cert.Proof.ProjRef.mdRef (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)))
      ∧ (r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)) :=
  (θ_run Cert.ProjRefIdeal.defs _ _).mono (fun _ h c => ⟨⟨(h c).1, (h c).2.1, (h c).2.2.1, (h c).2.2.2.1, (h c).2.2.2.2.1⟩, (h c).2.2.2.2.2⟩) (Cert.ProjRefIdeal.Value.run (F := Ideal) m ρ)

/-- The kernel's five arrays and the reference's are the same functions of the arguments. -/
theorem algebraic : Cert.algebraic_ProjIdeal_ProjRefIdeal := fun m ρ m' ρ' _ hag =>
  ⟨fun c => Cert.Proof.ProjRef.vaRef (m ((c.tc : Thread nD τ).loc main_arg0)) (m ((c.tc : Thread nD τ).loc main_arg1)) (m ((c.tc : Thread nD τ).loc main_arg2)) (m ((c.tc : Thread nD τ).loc main_arg3)),
    fun c => Cert.Proof.ProjRef.gaRef (m ((c.tc : Thread nD τ).loc main_arg0)) (m ((c.tc : Thread nD τ).loc main_arg1)) (m ((c.tc : Thread nD τ).loc main_arg2)) (m ((c.tc : Thread nD τ).loc main_arg3)),
    fun c => Cert.Proof.ProjRef.gdRef (m ((c.tc : Thread nD τ).loc main_arg0)) (m ((c.tc : Thread nD τ).loc main_arg1)) (m ((c.tc : Thread nD τ).loc main_arg2)) (m ((c.tc : Thread nD τ).loc main_arg3)),
    fun c => Cert.Proof.ProjRef.maRef (m ((c.tc : Thread nD τ).loc main_arg0)) (m ((c.tc : Thread nD τ).loc main_arg1)) (m ((c.tc : Thread nD τ).loc main_arg2)) (m ((c.tc : Thread nD τ).loc main_arg3)),
    fun c => Cert.Proof.ProjRef.mdRef (m ((c.tc : Thread nD τ).loc main_arg0)) (m ((c.tc : Thread nD τ).loc main_arg1)) (m ((c.tc : Thread nD τ).loc main_arg2)) (m ((c.tc : Thread nD τ).loc main_arg3)),
    (θ_run defs _ _).mono (fun _ h c => by
      obtain ⟨-, -, -, h3, h4, h5, h6, -, -, -, -, h11, -, -, hargs⟩ := h c
      exact ⟨h3.trans (value_va m c), h4.trans (value_ga m c), h11.trans (value_gd m c), h5.trans (value_ma m c), h6.trans (value_md m c), hargs⟩) (Cert.ProjIdeal.Value.run_blocks m ρ),
    (θ_run Cert.ProjRefIdeal.defs _ _).mono (fun _ h c => by
      obtain ⟨⟨h0, h1, h2, h3, h4⟩, hargs⟩ := h c
      obtain ⟨e0, e1, e2, e3, -⟩ := hag c
      rw [e0, e1, e2, e3] at h0 h1 h2 h3 h4
      exact ⟨h0, h1, h2, h3, h4, hargs⟩) (reference_run m' ρ')⟩

end Cert.Proof.Proj

end
-- ==== Proof.lean ====
/-
  The proof of `Cert.Claim`: the generated frames of the four calls, and the value claims of the modules beside this one.
-/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.GlaIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MixIdeal.Value
public import proofs.«01_k».proof.Proof.Gen.MergeIdeal.Value
public import proofs.«01_k».proof.Proof.Gen.MlpIdeal.Value
public import proofs.«01_k».proof.Proof.Gen.MergeRefIdeal.Run
public import proofs.«01_k».proof.Proof.Gen.MlpRefIdeal.Run
public import proofs.«01_k».proof.Proof.Gen.GlaIdeal.Run
public import proofs.«01_k».proof.Proof.Gen.GlaIdeal.Step
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.MergeClaim
public import proofs.«01_k».proof.Proof.MlpClaim
public import proofs.«01_k».proof.Proof.MixClaim
public import proofs.«01_k».proof.Proof.ProjClaim
public import Idealize.ShloMosaic.Adequacy
public import Idealize.ShloMosaic.Init

@[expose] public section

noncomputable section

namespace Cert.Proof

open Idealize.ShloMosaic Idealize.SL.Sem Cert.Mix

/-- The attention reference's run leaves its arguments and, having no semaphore, every counter at zero. -/
theorem frame_gla : Cert.quiescent_GlaIdeal := fun m ρ _ =>
  (θ_run Cert.GlaIdeal.defs _ _).mono (fun r h => ⟨fun c => (h c).2, sem_eq_zero_of_no_sems (by decide) r.2⟩) (Cert.GlaIdeal.Value.run (F := Ideal) m ρ)

theorem claim : Cert.Claim := ⟨Cert.Mix.Gen.facts, Cert.MixIdeal.Gen.facts, Cert.GlaIdeal.Gen.facts, Cert.Merge.Gen.facts, Cert.MergeIdeal.Gen.facts, Cert.MergeRefIdeal.Gen.facts, Cert.Mlp.Gen.facts, Cert.MlpIdeal.Gen.facts, Cert.MlpRefIdeal.Gen.facts, Cert.Proj.Gen.facts, Cert.ProjIdeal.Gen.facts, Cert.ProjRefIdeal.Gen.facts,
  fun m ρ _ => Cert.Mix.Gen.frame m ρ, fun m ρ _ => Cert.MixIdeal.Gen.frame m ρ, frame_gla,
  fun m ρ _ => Cert.Merge.Gen.frame m ρ, fun m ρ _ => Cert.MergeIdeal.Gen.frame m ρ, Cert.Proof.Merge.frame_reference,
  fun m ρ _ => Cert.Mlp.Gen.frame m ρ, fun m ρ _ => Cert.MlpIdeal.Gen.frame m ρ, Cert.Proof.Mlp.frame_reference,
  fun m ρ _ => Cert.Proj.Gen.frame m ρ, fun m ρ _ => Cert.ProjIdeal.Gen.frame m ρ, Cert.Proof.Proj.frame_reference,
  trivial, Cert.Proof.Mix.algebraic, trivial, Cert.Proof.Merge.algebraic, trivial, Cert.Proof.Mlp.algebraic, trivial, Cert.Proof.Proj.algebraic⟩

end Cert.Proof

end
